-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![2048, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x128 : Shape := ⟨2, ![2048, 128]⟩
abbrev S128x2048 : Shape := ⟨2, ![128, 2048]⟩
abbrev S16x128x1024 : Shape := ⟨3, ![16, 128, 1024]⟩
abbrev S2048x2048 : Shape := ⟨2, ![2048, 2048]⟩
abbrev S15x4 : Shape := ⟨2, ![15, 4]⟩
abbrev S16x4 : Shape := ⟨2, ![16, 4]⟩
abbrev S_ : Shape := ⟨0, ![]⟩
abbrev S32x128 : Shape := ⟨2, ![32, 128]⟩
abbrev S128x1024 : Shape := ⟨2, ![128, 1024]⟩
abbrev S32x1024 : Shape := ⟨2, ![32, 1024]⟩
abbrev S1x32x1024 : Shape := ⟨3, ![1, 32, 1024]⟩
abbrev S1x1 : Shape := ⟨2, ![1, 1]⟩

abbrev nBuf : Space → Nat
  | .hbm => 3
  | .vmem => 6
  | .smem => 0
  | _ => 0

abbrev bufTy : (tb : Table) → Fin (tcTables nBuf tb) → BufTy
  | .hbm, ⟨0, _⟩ => ⟨S2048x128, .f32⟩
  | .hbm, ⟨1, _⟩ => ⟨S128x2048, .f32⟩
  | .hbm, ⟨2, _⟩ => ⟨S128x2048, .f32⟩
  | .local _ .vmem, ⟨0, _⟩ => ⟨S2048x128, .f32⟩
  | .local _ .vmem, ⟨1, _⟩ => ⟨S128x2048, .f32⟩
  | .local _ .vmem, ⟨2, _⟩ => ⟨S128x2048, .f32⟩
  | .local _ .vmem, ⟨3, _⟩ => ⟨S16x128x1024, .bf16⟩
  | .local _ .vmem, ⟨4, _⟩ => ⟨S16x128x1024, .bf16⟩
  | .local _ .vmem, ⟨5, _⟩ => ⟨S2048x2048, .f32⟩
  | _, _ => ⟨S2048x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 251 → Bool
  | ⟨i, _⟩ => dmaSemScopedAt i

abbrev sig : RefSig :=
  (ofTc nBuf bufTy 1 251 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_69 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_68 : BitVec 32 := 1#32
  let v135 : BitVec 32 := Scalar.muli v133 c1_i32_68
  let v136 : BitVec 32 := Scalar.addi c0_i32_69 v135
  v136.toNat
def k0_dev2 (d0 : Dev nD) : Nat :=
  let c0_i32_72 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_71 : BitVec 32 := 1#32
  let v137 : BitVec 32 := Scalar.muli v88 c1_i32_71
  let v138 : BitVec 32 := Scalar.addi c0_i32_72 v137
  v138.toNat
def k0_off1 (d0 : Dev nD) (c0_i32_123 : BitVec 32) : Fin 2 → Nat :=
  let c4_i32_97 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_73 : BitVec 32 := 1#32
  let v139 : BitVec 32 := Scalar.subi v44 c1_i32_73
  let c0_i32_74 : BitVec 32 := 0#32
  let v140 : BitVec 32 := Scalar.subi v139 c0_i32_74
  let c32_i32 : BitVec 32 := 32#32
  let v141 : BitVec 32 := Scalar.addi v140 c32_i32
  let c16_i32_75 : BitVec 32 := 16#32
  let v142 : BitVec 32 := Scalar.remsi v141 c16_i32_75
  let c0_i32_77 : BitVec 32 := 0#32
  let v144 : BitVec 1 := Scalar.cmpi .sgt v142 c0_i32_77
  let v145 : BitVec 32 := Scalar.extui v144
  let c0_i32_78 : BitVec 32 := 0#32
  let v146 : BitVec 1 := Scalar.cmpi .slt v142 c0_i32_78
  let v147 : BitVec 32 := Scalar.extui v146
  let v148 : BitVec 32 := Scalar.subi v145 v147
  let c4_i32_76 : BitVec 32 := 4#32
  let c0_i32_79 : BitVec 32 := 0#32
  let v149 : BitVec 1 := Scalar.cmpi .sgt c4_i32_76 c0_i32_79
  let v150 : BitVec 32 := Scalar.extui v149
  let c0_i32_80 : BitVec 32 := 0#32
  let v151 : BitVec 1 := Scalar.cmpi .slt c4_i32_76 c0_i32_80
  let v152 : BitVec 32 := Scalar.extui v151
  let v153 : BitVec 32 := Scalar.subi v150 v152
  let v154 : BitVec 1 := Scalar.cmpi .ne v148 v153
  let v155 : BitVec 32 := Scalar.remsi v142 c4_i32_76
  let c0_i32_81 : BitVec 32 := 0#32
  let v156 : BitVec 1 := Scalar.cmpi .ne v155 c0_i32_81
  let v157 : BitVec 1 := Scalar.andi v154 v156
  let v143 : BitVec 32 := Scalar.divsi v142 c4_i32_76
  let c1_i32_82 : BitVec 32 := 1#32
  let v158 : BitVec 32 := Scalar.subi v143 c1_i32_82
  let v159 : BitVec 32 := Scalar.select v157 v158 v143
  let c2_i32_89 : BitVec 32 := 2#32
  let c0_i32_90 : BitVec 32 := 0#32
  let v170 : BitVec 1 := Scalar.cmpi .eq c2_i32_89 c0_i32_90
  let c1_i32_91 : BitVec 32 := 1#32
  let v171 : BitVec 32 := Scalar.select v170 c1_i32_91 c2_i32_89
  let v172 : BitVec 32 := Scalar.remsi v159 v171
  let c0_i32_93 : BitVec 32 := 0#32
  let v174 : BitVec 1 := Scalar.cmpi .slt v172 c0_i32_93
  let c0_i32_94 : BitVec 32 := 0#32
  let v175 : BitVec 1 := Scalar.cmpi .slt v171 c0_i32_94
  let v176 : BitVec 1 := Scalar.xori v174 v175
  let c0_i32_92 : BitVec 32 := 0#32
  let v173 : BitVec 1 := Scalar.cmpi .ne v172 c0_i32_92
  let v177 : BitVec 1 := Scalar.andi v176 v173
  let v178 : BitVec 32 := Scalar.addi v172 v171
  let v179 : BitVec 32 := Scalar.select v177 v178 v172
  let c0_i32_95 : BitVec 32 := 0#32
  let v180 : BitVec 1 := Scalar.cmpi .eq v179 c0_i32_95
  let c4_i32_83 : BitVec 32 := 4#32
  let c0_i32_84 : BitVec 32 := 0#32
  let v160 : BitVec 1 := Scalar.cmpi .eq c4_i32_83 c0_i32_84
  let c1_i32_85 : BitVec 32 := 1#32
  let v161 : BitVec 32 := Scalar.select v160 c1_i32_85 c4_i32_83
  let v162 : BitVec 32 := Scalar.remsi v142 v161
  let c0_i32_87 : BitVec 32 := 0#32
  let v164 : BitVec 1 := Scalar.cmpi .slt v162 c0_i32_87
  let c0_i32_88 : BitVec 32 := 0#32
  let v165 : BitVec 1 := Scalar.cmpi .slt v161 c0_i32_88
  let v166 : BitVec 1 := Scalar.xori v164 v165
  let c0_i32_86 : BitVec 32 := 0#32
  let v163 : BitVec 1 := Scalar.cmpi .ne v162 c0_i32_86
  let v167 : BitVec 1 := Scalar.andi v166 v163
  let v168 : BitVec 32 := Scalar.addi v162 v161
  let v169 : BitVec 32 := Scalar.select v167 v168 v162
  let c3_i32_96 : BitVec 32 := 3#32
  let v181 : BitVec 32 := Scalar.subi c3_i32_96 v169
  let v182 : BitVec 32 := Scalar.select v180 v169 v181
  let v183 : BitVec 32 := Scalar.muli c4_i32_97 v182
  let v184 : BitVec 32 := Scalar.addi v183 v159
  let c128_i32 : BitVec 32 := 128#32
  let v230 : BitVec 32 := Scalar.muli v184 c128_i32
  let v231 : BitVec 32 := Scalar.addi v230 c0_i32_123
  let v232 : Index := Scalar.indexCast v231
  let c0 : Index := 0#32
  ![v232.toNat, 0]
def k0_off2 (d0 : Dev nD) (c0_i32_130 : BitVec 32) : Fin 2 → Nat :=
  let c4_i32_122 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_98 : BitVec 32 := 1#32
  let v185 : BitVec 32 := Scalar.addi v44 c1_i32_98
  let c0_i32_99 : BitVec 32 := 0#32
  let v186 : BitVec 32 := Scalar.addi v185 c0_i32_99
  let c16_i32_100 : BitVec 32 := 16#32
  let v187 : BitVec 32 := Scalar.remsi v186 c16_i32_100
  let c0_i32_102 : BitVec 32 := 0#32
  let v189 : BitVec 1 := Scalar.cmpi .sgt v187 c0_i32_102
  let v190 : BitVec 32 := Scalar.extui v189
  let c0_i32_103 : BitVec 32 := 0#32
  let v191 : BitVec 1 := Scalar.cmpi .slt v187 c0_i32_103
  let v192 : BitVec 32 := Scalar.extui v191
  let v193 : BitVec 32 := Scalar.subi v190 v192
  let c4_i32_101 : BitVec 32 := 4#32
  let c0_i32_104 : BitVec 32 := 0#32
  let v194 : BitVec 1 := Scalar.cmpi .sgt c4_i32_101 c0_i32_104
  let v195 : BitVec 32 := Scalar.extui v194
  let c0_i32_105 : BitVec 32 := 0#32
  let v196 : BitVec 1 := Scalar.cmpi .slt c4_i32_101 c0_i32_105
  let v197 : BitVec 32 := Scalar.extui v196
  let v198 : BitVec 32 := Scalar.subi v195 v197
  let v199 : BitVec 1 := Scalar.cmpi .ne v193 v198
  let v200 : BitVec 32 := Scalar.remsi v187 c4_i32_101
  let c0_i32_106 : BitVec 32 := 0#32
  let v201 : BitVec 1 := Scalar.cmpi .ne v200 c0_i32_106
  let v202 : BitVec 1 := Scalar.andi v199 v201
  let v188 : BitVec 32 := Scalar.divsi v187 c4_i32_101
  let c1_i32_107 : BitVec 32 := 1#32
  let v203 : BitVec 32 := Scalar.subi v188 c1_i32_107
  let v204 : BitVec 32 := Scalar.select v202 v203 v188
  let c2_i32_114 : BitVec 32 := 2#32
  let c0_i32_115 : BitVec 32 := 0#32
  let v215 : BitVec 1 := Scalar.cmpi .eq c2_i32_114 c0_i32_115
  let c1_i32_116 : BitVec 32 := 1#32
  let v216 : BitVec 32 := Scalar.select v215 c1_i32_116 c2_i32_114
  let v217 : BitVec 32 := Scalar.remsi v204 v216
  let c0_i32_118 : BitVec 32 := 0#32
  let v219 : BitVec 1 := Scalar.cmpi .slt v217 c0_i32_118
  let c0_i32_119 : BitVec 32 := 0#32
  let v220 : BitVec 1 := Scalar.cmpi .slt v216 c0_i32_119
  let v221 : BitVec 1 := Scalar.xori v219 v220
  let c0_i32_117 : BitVec 32 := 0#32
  let v218 : BitVec 1 := Scalar.cmpi .ne v217 c0_i32_117
  let v222 : BitVec 1 := Scalar.andi v221 v218
  let v223 : BitVec 32 := Scalar.addi v217 v216
  let v224 : BitVec 32 := Scalar.select v222 v223 v217
  let c0_i32_120 : BitVec 32 := 0#32
  let v225 : BitVec 1 := Scalar.cmpi .eq v224 c0_i32_120
  let c4_i32_108 : BitVec 32 := 4#32
  let c0_i32_109 : BitVec 32 := 0#32
  let v205 : BitVec 1 := Scalar.cmpi .eq c4_i32_108 c0_i32_109
  let c1_i32_110 : BitVec 32 := 1#32
  let v206 : BitVec 32 := Scalar.select v205 c1_i32_110 c4_i32_108
  let v207 : BitVec 32 := Scalar.remsi v187 v206
  let c0_i32_112 : BitVec 32 := 0#32
  let v209 : BitVec 1 := Scalar.cmpi .slt v207 c0_i32_112
  let c0_i32_113 : BitVec 32 := 0#32
  let v210 : BitVec 1 := Scalar.cmpi .slt v206 c0_i32_113
  let v211 : BitVec 1 := Scalar.xori v209 v210
  let c0_i32_111 : BitVec 32 := 0#32
  let v208 : BitVec 1 := Scalar.cmpi .ne v207 c0_i32_111
  let v212 : BitVec 1 := Scalar.andi v211 v208
  let v213 : BitVec 32 := Scalar.addi v207 v206
  let v214 : BitVec 32 := Scalar.select v212 v213 v207
  let c3_i32_121 : BitVec 32 := 3#32
  let v226 : BitVec 32 := Scalar.subi c3_i32_121 v214
  let v227 : BitVec 32 := Scalar.select v225 v214 v226
  let v228 : BitVec 32 := Scalar.muli c4_i32_122 v227
  let v229 : BitVec 32 := Scalar.addi v228 v204
  let c128_i32_129 : BitVec 32 := 128#32
  let v242 : BitVec 32 := Scalar.muli v229 c128_i32_129
  let v243 : BitVec 32 := Scalar.addi v242 c0_i32_130
  let v244 : Index := Scalar.indexCast v243
  let c0_131 : Index := 0#32
  ![v244.toNat, 0]
def k0_dev3 (d0 : Dev nD) : Nat :=
  let c0_i32_145 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_144 : BitVec 32 := 1#32
  let v254 : BitVec 32 := Scalar.muli v88 c1_i32_144
  let v255 : BitVec 32 := Scalar.addi c0_i32_145 v254
  v255.toNat
def k0_dev4 (d0 : Dev nD) : Nat :=
  let c0_i32_157 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_156 : BitVec 32 := 1#32
  let v264 : BitVec 32 := Scalar.muli v133 c1_i32_156
  let v265 : BitVec 32 := Scalar.addi c0_i32_157 v264
  v265.toNat
def k0_dev5 (d0 : Dev nD) : Nat :=
  let c0_i32_177 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_176 : BitVec 32 := 1#32
  let v286 : BitVec 32 := Scalar.muli v88 c1_i32_176
  let v287 : BitVec 32 := Scalar.addi c0_i32_177 v286
  v287.toNat
def k0_dev6 (d0 : Dev nD) : Nat :=
  let c0_i32_198 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_197 : BitVec 32 := 1#32
  let v308 : BitVec 32 := Scalar.muli v133 c1_i32_197
  let v309 : BitVec 32 := Scalar.addi c0_i32_198 v308
  v309.toNat
def k0_dev7 (d0 : Dev nD) : Nat :=
  let c0_i32_217 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_216 : BitVec 32 := 1#32
  let v330 : BitVec 32 := Scalar.muli v88 c1_i32_216
  let v331 : BitVec 32 := Scalar.addi c0_i32_217 v330
  v331.toNat
def k0_dev8 (d0 : Dev nD) : Nat :=
  let c0_i32_238 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_237 : BitVec 32 := 1#32
  let v352 : BitVec 32 := Scalar.muli v133 c1_i32_237
  let v353 : BitVec 32 := Scalar.addi c0_i32_238 v352
  v353.toNat
def k0_dev9 (d0 : Dev nD) : Nat :=
  let c0_i32_257 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_256 : BitVec 32 := 1#32
  let v374 : BitVec 32 := Scalar.muli v88 c1_i32_256
  let v375 : BitVec 32 := Scalar.addi c0_i32_257 v374
  v375.toNat
def k0_dev10 (d0 : Dev nD) : Nat :=
  let c0_i32_278 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_277 : BitVec 32 := 1#32
  let v396 : BitVec 32 := Scalar.muli v133 c1_i32_277
  let v397 : BitVec 32 := Scalar.addi c0_i32_278 v396
  v397.toNat
def k0_off3 (d0 : Dev nD) (c1_i32_291 : BitVec 32) (c0_i32_357 : BitVec 32) : Fin 2 → Nat :=
  let c4_i32_315 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_290 : BitVec 32 := 1#32
  let v414 : BitVec 32 := Scalar.subi v44 c1_i32_290
  let v415 : BitVec 32 := Scalar.subi v414 c1_i32_291
  let c32_i32_292 : BitVec 32 := 32#32
  let v416 : BitVec 32 := Scalar.addi v415 c32_i32_292
  let c16_i32_293 : BitVec 32 := 16#32
  let v417 : BitVec 32 := Scalar.remsi v416 c16_i32_293
  let c0_i32_295 : BitVec 32 := 0#32
  let v419 : BitVec 1 := Scalar.cmpi .sgt v417 c0_i32_295
  let v420 : BitVec 32 := Scalar.extui v419
  let c0_i32_296 : BitVec 32 := 0#32
  let v421 : BitVec 1 := Scalar.cmpi .slt v417 c0_i32_296
  let v422 : BitVec 32 := Scalar.extui v421
  let v423 : BitVec 32 := Scalar.subi v420 v422
  let c4_i32_294 : BitVec 32 := 4#32
  let c0_i32_297 : BitVec 32 := 0#32
  let v424 : BitVec 1 := Scalar.cmpi .sgt c4_i32_294 c0_i32_297
  let v425 : BitVec 32 := Scalar.extui v424
  let c0_i32_298 : BitVec 32 := 0#32
  let v426 : BitVec 1 := Scalar.cmpi .slt c4_i32_294 c0_i32_298
  let v427 : BitVec 32 := Scalar.extui v426
  let v428 : BitVec 32 := Scalar.subi v425 v427
  let v429 : BitVec 1 := Scalar.cmpi .ne v423 v428
  let v430 : BitVec 32 := Scalar.remsi v417 c4_i32_294
  let c0_i32_299 : BitVec 32 := 0#32
  let v431 : BitVec 1 := Scalar.cmpi .ne v430 c0_i32_299
  let v432 : BitVec 1 := Scalar.andi v429 v431
  let v418 : BitVec 32 := Scalar.divsi v417 c4_i32_294
  let c1_i32_300 : BitVec 32 := 1#32
  let v433 : BitVec 32 := Scalar.subi v418 c1_i32_300
  let v434 : BitVec 32 := Scalar.select v432 v433 v418
  let c2_i32_307 : BitVec 32 := 2#32
  let c0_i32_308 : BitVec 32 := 0#32
  let v445 : BitVec 1 := Scalar.cmpi .eq c2_i32_307 c0_i32_308
  let c1_i32_309 : BitVec 32 := 1#32
  let v446 : BitVec 32 := Scalar.select v445 c1_i32_309 c2_i32_307
  let v447 : BitVec 32 := Scalar.remsi v434 v446
  let c0_i32_311 : BitVec 32 := 0#32
  let v449 : BitVec 1 := Scalar.cmpi .slt v447 c0_i32_311
  let c0_i32_312 : BitVec 32 := 0#32
  let v450 : BitVec 1 := Scalar.cmpi .slt v446 c0_i32_312
  let v451 : BitVec 1 := Scalar.xori v449 v450
  let c0_i32_310 : BitVec 32 := 0#32
  let v448 : BitVec 1 := Scalar.cmpi .ne v447 c0_i32_310
  let v452 : BitVec 1 := Scalar.andi v451 v448
  let v453 : BitVec 32 := Scalar.addi v447 v446
  let v454 : BitVec 32 := Scalar.select v452 v453 v447
  let c0_i32_313 : BitVec 32 := 0#32
  let v455 : BitVec 1 := Scalar.cmpi .eq v454 c0_i32_313
  let c4_i32_301 : BitVec 32 := 4#32
  let c0_i32_302 : BitVec 32 := 0#32
  let v435 : BitVec 1 := Scalar.cmpi .eq c4_i32_301 c0_i32_302
  let c1_i32_303 : BitVec 32 := 1#32
  let v436 : BitVec 32 := Scalar.select v435 c1_i32_303 c4_i32_301
  let v437 : BitVec 32 := Scalar.remsi v417 v436
  let c0_i32_305 : BitVec 32 := 0#32
  let v439 : BitVec 1 := Scalar.cmpi .slt v437 c0_i32_305
  let c0_i32_306 : BitVec 32 := 0#32
  let v440 : BitVec 1 := Scalar.cmpi .slt v436 c0_i32_306
  let v441 : BitVec 1 := Scalar.xori v439 v440
  let c0_i32_304 : BitVec 32 := 0#32
  let v438 : BitVec 1 := Scalar.cmpi .ne v437 c0_i32_304
  let v442 : BitVec 1 := Scalar.andi v441 v438
  let v443 : BitVec 32 := Scalar.addi v437 v436
  let v444 : BitVec 32 := Scalar.select v442 v443 v437
  let c3_i32_314 : BitVec 32 := 3#32
  let v456 : BitVec 32 := Scalar.subi c3_i32_314 v444
  let v457 : BitVec 32 := Scalar.select v455 v444 v456
  let v458 : BitVec 32 := Scalar.muli c4_i32_315 v457
  let v459 : BitVec 32 := Scalar.addi v458 v434
  let c128_i32_316 : BitVec 32 := 128#32
  let v460 : BitVec 32 := Scalar.muli v459 c128_i32_316
  let v518 : BitVec 32 := Scalar.addi v460 c0_i32_357
  let v519 : Index := Scalar.indexCast v518
  let c0_358 : Index := 0#32
  ![v519.toNat, 0]
def k0_dev11 (d0 : Dev nD) : Nat :=
  let c0_i32_369 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_368 : BitVec 32 := 1#32
  let v526 : BitVec 32 := Scalar.muli v88 c1_i32_368
  let v527 : BitVec 32 := Scalar.addi c0_i32_369 v526
  v527.toNat
def k0_off4 (d0 : Dev nD) (c1_i32_318 : BitVec 32) (c0_i32_389 : BitVec 32) : Fin 2 → Nat :=
  let c4_i32_341 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_317 : BitVec 32 := 1#32
  let v461 : BitVec 32 := Scalar.addi v44 c1_i32_317
  let v462 : BitVec 32 := Scalar.addi v461 c1_i32_318
  let c16_i32_319 : BitVec 32 := 16#32
  let v463 : BitVec 32 := Scalar.remsi v462 c16_i32_319
  let c0_i32_321 : BitVec 32 := 0#32
  let v465 : BitVec 1 := Scalar.cmpi .sgt v463 c0_i32_321
  let v466 : BitVec 32 := Scalar.extui v465
  let c0_i32_322 : BitVec 32 := 0#32
  let v467 : BitVec 1 := Scalar.cmpi .slt v463 c0_i32_322
  let v468 : BitVec 32 := Scalar.extui v467
  let v469 : BitVec 32 := Scalar.subi v466 v468
  let c4_i32_320 : BitVec 32 := 4#32
  let c0_i32_323 : BitVec 32 := 0#32
  let v470 : BitVec 1 := Scalar.cmpi .sgt c4_i32_320 c0_i32_323
  let v471 : BitVec 32 := Scalar.extui v470
  let c0_i32_324 : BitVec 32 := 0#32
  let v472 : BitVec 1 := Scalar.cmpi .slt c4_i32_320 c0_i32_324
  let v473 : BitVec 32 := Scalar.extui v472
  let v474 : BitVec 32 := Scalar.subi v471 v473
  let v475 : BitVec 1 := Scalar.cmpi .ne v469 v474
  let v476 : BitVec 32 := Scalar.remsi v463 c4_i32_320
  let c0_i32_325 : BitVec 32 := 0#32
  let v477 : BitVec 1 := Scalar.cmpi .ne v476 c0_i32_325
  let v478 : BitVec 1 := Scalar.andi v475 v477
  let v464 : BitVec 32 := Scalar.divsi v463 c4_i32_320
  let c1_i32_326 : BitVec 32 := 1#32
  let v479 : BitVec 32 := Scalar.subi v464 c1_i32_326
  let v480 : BitVec 32 := Scalar.select v478 v479 v464
  let c2_i32_333 : BitVec 32 := 2#32
  let c0_i32_334 : BitVec 32 := 0#32
  let v491 : BitVec 1 := Scalar.cmpi .eq c2_i32_333 c0_i32_334
  let c1_i32_335 : BitVec 32 := 1#32
  let v492 : BitVec 32 := Scalar.select v491 c1_i32_335 c2_i32_333
  let v493 : BitVec 32 := Scalar.remsi v480 v492
  let c0_i32_337 : BitVec 32 := 0#32
  let v495 : BitVec 1 := Scalar.cmpi .slt v493 c0_i32_337
  let c0_i32_338 : BitVec 32 := 0#32
  let v496 : BitVec 1 := Scalar.cmpi .slt v492 c0_i32_338
  let v497 : BitVec 1 := Scalar.xori v495 v496
  let c0_i32_336 : BitVec 32 := 0#32
  let v494 : BitVec 1 := Scalar.cmpi .ne v493 c0_i32_336
  let v498 : BitVec 1 := Scalar.andi v497 v494
  let v499 : BitVec 32 := Scalar.addi v493 v492
  let v500 : BitVec 32 := Scalar.select v498 v499 v493
  let c0_i32_339 : BitVec 32 := 0#32
  let v501 : BitVec 1 := Scalar.cmpi .eq v500 c0_i32_339
  let c4_i32_327 : BitVec 32 := 4#32
  let c0_i32_328 : BitVec 32 := 0#32
  let v481 : BitVec 1 := Scalar.cmpi .eq c4_i32_327 c0_i32_328
  let c1_i32_329 : BitVec 32 := 1#32
  let v482 : BitVec 32 := Scalar.select v481 c1_i32_329 c4_i32_327
  let v483 : BitVec 32 := Scalar.remsi v463 v482
  let c0_i32_331 : BitVec 32 := 0#32
  let v485 : BitVec 1 := Scalar.cmpi .slt v483 c0_i32_331
  let c0_i32_332 : BitVec 32 := 0#32
  let v486 : BitVec 1 := Scalar.cmpi .slt v482 c0_i32_332
  let v487 : BitVec 1 := Scalar.xori v485 v486
  let c0_i32_330 : BitVec 32 := 0#32
  let v484 : BitVec 1 := Scalar.cmpi .ne v483 c0_i32_330
  let v488 : BitVec 1 := Scalar.andi v487 v484
  let v489 : BitVec 32 := Scalar.addi v483 v482
  let v490 : BitVec 32 := Scalar.select v488 v489 v483
  let c3_i32_340 : BitVec 32 := 3#32
  let v502 : BitVec 32 := Scalar.subi c3_i32_340 v490
  let v503 : BitVec 32 := Scalar.select v501 v490 v502
  let v504 : BitVec 32 := Scalar.muli c4_i32_341 v503
  let v505 : BitVec 32 := Scalar.addi v504 v480
  let c128_i32_342 : BitVec 32 := 128#32
  let v506 : BitVec 32 := Scalar.muli v505 c128_i32_342
  let v547 : BitVec 32 := Scalar.addi v506 c0_i32_389
  let v548 : Index := Scalar.indexCast v547
  let c1024_390 : Index := 1024#32
  ![v548.toNat, 1024]
def k0_dev12 (d0 : Dev nD) : Nat :=
  let c0_i32_401 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_400 : BitVec 32 := 1#32
  let v555 : BitVec 32 := Scalar.muli v133 c1_i32_400
  let v556 : BitVec 32 := Scalar.addi c0_i32_401 v555
  v556.toNat
def k0_dev13 (d0 : Dev nD) : Nat :=
  let c0_i32_433 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_432 : BitVec 32 := 1#32
  let v584 : BitVec 32 := Scalar.muli v88 c1_i32_432
  let v585 : BitVec 32 := Scalar.addi c0_i32_433 v584
  v585.toNat
def k0_dev14 (d0 : Dev nD) : Nat :=
  let c0_i32_465 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_464 : BitVec 32 := 1#32
  let v613 : BitVec 32 := Scalar.muli v133 c1_i32_464
  let v614 : BitVec 32 := Scalar.addi c0_i32_465 v613
  v614.toNat
def k0_dev15 (d0 : Dev nD) : Nat :=
  let c0_i32_497 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_496 : BitVec 32 := 1#32
  let v642 : BitVec 32 := Scalar.muli v88 c1_i32_496
  let v643 : BitVec 32 := Scalar.addi c0_i32_497 v642
  v643.toNat
def k0_dev16 (d0 : Dev nD) : Nat :=
  let c0_i32_529 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_528 : BitVec 32 := 1#32
  let v671 : BitVec 32 := Scalar.muli v133 c1_i32_528
  let v672 : BitVec 32 := Scalar.addi c0_i32_529 v671
  v672.toNat
def k0_dev17 (d0 : Dev nD) : Nat :=
  let c0_i32_561 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_560 : BitVec 32 := 1#32
  let v700 : BitVec 32 := Scalar.muli v88 c1_i32_560
  let v701 : BitVec 32 := Scalar.addi c0_i32_561 v700
  v701.toNat
def k0_dev18 (d0 : Dev nD) : Nat :=
  let c0_i32_593 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_592 : BitVec 32 := 1#32
  let v729 : BitVec 32 := Scalar.muli v133 c1_i32_592
  let v730 : BitVec 32 := Scalar.addi c0_i32_593 v729
  v730.toNat
def k0_dev19 (d0 : Dev nD) : Nat :=
  let c0_i32_677 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_676 : BitVec 32 := 1#32
  let v851 : BitVec 32 := Scalar.muli v88 c1_i32_676
  let v852 : BitVec 32 := Scalar.addi c0_i32_677 v851
  v852.toNat
def k0_dev20 (d0 : Dev nD) : Nat :=
  let c0_i32_709 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_708 : BitVec 32 := 1#32
  let v880 : BitVec 32 := Scalar.muli v133 c1_i32_708
  let v881 : BitVec 32 := Scalar.addi c0_i32_709 v880
  v881.toNat
def k0_dev21 (d0 : Dev nD) : Nat :=
  let c0_i32_741 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_740 : BitVec 32 := 1#32
  let v909 : BitVec 32 := Scalar.muli v88 c1_i32_740
  let v910 : BitVec 32 := Scalar.addi c0_i32_741 v909
  v910.toNat
def k0_dev22 (d0 : Dev nD) : Nat :=
  let c0_i32_773 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_772 : BitVec 32 := 1#32
  let v938 : BitVec 32 := Scalar.muli v133 c1_i32_772
  let v939 : BitVec 32 := Scalar.addi c0_i32_773 v938
  v939.toNat
def k0_dev23 (d0 : Dev nD) : Nat :=
  let c0_i32_805 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_804 : BitVec 32 := 1#32
  let v967 : BitVec 32 := Scalar.muli v88 c1_i32_804
  let v968 : BitVec 32 := Scalar.addi c0_i32_805 v967
  v968.toNat
def k0_dev24 (d0 : Dev nD) : Nat :=
  let c0_i32_837 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_836 : BitVec 32 := 1#32
  let v996 : BitVec 32 := Scalar.muli v133 c1_i32_836
  let v997 : BitVec 32 := Scalar.addi c0_i32_837 v996
  v997.toNat
def k0_dev25 (d0 : Dev nD) : Nat :=
  let c0_i32_869 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_868 : BitVec 32 := 1#32
  let v1025 : BitVec 32 := Scalar.muli v88 c1_i32_868
  let v1026 : BitVec 32 := Scalar.addi c0_i32_869 v1025
  v1026.toNat
def k0_dev26 (d0 : Dev nD) : Nat :=
  let c0_i32_901 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_900 : BitVec 32 := 1#32
  let v1054 : BitVec 32 := Scalar.muli v133 c1_i32_900
  let v1055 : BitVec 32 := Scalar.addi c0_i32_901 v1054
  v1055.toNat
def k0_dev27 (d0 : Dev nD) : Nat :=
  let c0_i32_985 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_984 : BitVec 32 := 1#32
  let v1176 : BitVec 32 := Scalar.muli v88 c1_i32_984
  let v1177 : BitVec 32 := Scalar.addi c0_i32_985 v1176
  v1177.toNat
def k0_dev28 (d0 : Dev nD) : Nat :=
  let c0_i32_1017 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_1016 : BitVec 32 := 1#32
  let v1205 : BitVec 32 := Scalar.muli v133 c1_i32_1016
  let v1206 : BitVec 32 := Scalar.addi c0_i32_1017 v1205
  v1206.toNat
def k0_dev29 (d0 : Dev nD) : Nat :=
  let c0_i32_1049 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_1048 : BitVec 32 := 1#32
  let v1234 : BitVec 32 := Scalar.muli v88 c1_i32_1048
  let v1235 : BitVec 32 := Scalar.addi c0_i32_1049 v1234
  v1235.toNat
def k0_dev30 (d0 : Dev nD) : Nat :=
  let c0_i32_1081 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_1080 : BitVec 32 := 1#32
  let v1263 : BitVec 32 := Scalar.muli v133 c1_i32_1080
  let v1264 : BitVec 32 := Scalar.addi c0_i32_1081 v1263
  v1264.toNat
def k0_dev31 (d0 : Dev nD) : Nat :=
  let c0_i32_1113 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_1112 : BitVec 32 := 1#32
  let v1292 : BitVec 32 := Scalar.muli v88 c1_i32_1112
  let v1293 : BitVec 32 := Scalar.addi c0_i32_1113 v1292
  v1293.toNat
def k0_dev32 (d0 : Dev nD) : Nat :=
  let c0_i32_1145 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_1144 : BitVec 32 := 1#32
  let v1321 : BitVec 32 := Scalar.muli v133 c1_i32_1144
  let v1322 : BitVec 32 := Scalar.addi c0_i32_1145 v1321
  v1322.toNat
def k0_dev33 (d0 : Dev nD) : Nat :=
  let c0_i32_1177 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_1176 : BitVec 32 := 1#32
  let v1350 : BitVec 32 := Scalar.muli v88 c1_i32_1176
  let v1351 : BitVec 32 := Scalar.addi c0_i32_1177 v1350
  v1351.toNat
def k0_dev34 (d0 : Dev nD) : Nat :=
  let c0_i32_1209 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_1208 : BitVec 32 := 1#32
  let v1379 : BitVec 32 := Scalar.muli v133 c1_i32_1208
  let v1380 : BitVec 32 := Scalar.addi c0_i32_1209 v1379
  v1380.toNat
def k0_dev35 (d0 : Dev nD) : Nat :=
  let c0_i32_1292 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_1291 : BitVec 32 := 1#32
  let v1501 : BitVec 32 := Scalar.muli v88 c1_i32_1291
  let v1502 : BitVec 32 := Scalar.addi c0_i32_1292 v1501
  v1502.toNat
def k0_dev36 (d0 : Dev nD) : Nat :=
  let c0_i32_1324 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_1323 : BitVec 32 := 1#32
  let v1530 : BitVec 32 := Scalar.muli v133 c1_i32_1323
  let v1531 : BitVec 32 := Scalar.addi c0_i32_1324 v1530
  v1531.toNat
def k0_dev37 (d0 : Dev nD) : Nat :=
  let c0_i32_1356 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_1355 : BitVec 32 := 1#32
  let v1559 : BitVec 32 := Scalar.muli v88 c1_i32_1355
  let v1560 : BitVec 32 := Scalar.addi c0_i32_1356 v1559
  v1560.toNat
def k0_dev38 (d0 : Dev nD) : Nat :=
  let c0_i32_1388 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_1387 : BitVec 32 := 1#32
  let v1588 : BitVec 32 := Scalar.muli v133 c1_i32_1387
  let v1589 : BitVec 32 := Scalar.addi c0_i32_1388 v1588
  v1589.toNat
def k0_dev39 (d0 : Dev nD) : Nat :=
  let c0_i32_1420 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_1419 : BitVec 32 := 1#32
  let v1617 : BitVec 32 := Scalar.muli v88 c1_i32_1419
  let v1618 : BitVec 32 := Scalar.addi c0_i32_1420 v1617
  v1618.toNat
def k0_dev40 (d0 : Dev nD) : Nat :=
  let c0_i32_1452 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_1451 : BitVec 32 := 1#32
  let v1646 : BitVec 32 := Scalar.muli v133 c1_i32_1451
  let v1647 : BitVec 32 := Scalar.addi c0_i32_1452 v1646
  v1647.toNat
def k0_dev41 (d0 : Dev nD) : Nat :=
  let c0_i32_1484 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_1483 : BitVec 32 := 1#32
  let v1675 : BitVec 32 := Scalar.muli v88 c1_i32_1483
  let v1676 : BitVec 32 := Scalar.addi c0_i32_1484 v1675
  v1676.toNat
def k0_dev42 (d0 : Dev nD) : Nat :=
  let c0_i32_1516 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_1515 : BitVec 32 := 1#32
  let v1704 : BitVec 32 := Scalar.muli v133 c1_i32_1515
  let v1705 : BitVec 32 := Scalar.addi c0_i32_1516 v1704
  v1705.toNat
def k0_dev43 (d0 : Dev nD) : Nat :=
  let c0_i32_1599 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_1598 : BitVec 32 := 1#32
  let v1826 : BitVec 32 := Scalar.muli v88 c1_i32_1598
  let v1827 : BitVec 32 := Scalar.addi c0_i32_1599 v1826
  v1827.toNat
def k0_dev44 (d0 : Dev nD) : Nat :=
  let c0_i32_1631 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_1630 : BitVec 32 := 1#32
  let v1855 : BitVec 32 := Scalar.muli v133 c1_i32_1630
  let v1856 : BitVec 32 := Scalar.addi c0_i32_1631 v1855
  v1856.toNat
def k0_dev45 (d0 : Dev nD) : Nat :=
  let c0_i32_1663 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_1662 : BitVec 32 := 1#32
  let v1884 : BitVec 32 := Scalar.muli v88 c1_i32_1662
  let v1885 : BitVec 32 := Scalar.addi c0_i32_1663 v1884
  v1885.toNat
def k0_dev46 (d0 : Dev nD) : Nat :=
  let c0_i32_1695 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_1694 : BitVec 32 := 1#32
  let v1913 : BitVec 32 := Scalar.muli v133 c1_i32_1694
  let v1914 : BitVec 32 := Scalar.addi c0_i32_1695 v1913
  v1914.toNat
def k0_dev47 (d0 : Dev nD) : Nat :=
  let c0_i32_1727 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_1726 : BitVec 32 := 1#32
  let v1942 : BitVec 32 := Scalar.muli v88 c1_i32_1726
  let v1943 : BitVec 32 := Scalar.addi c0_i32_1727 v1942
  v1943.toNat
def k0_dev48 (d0 : Dev nD) : Nat :=
  let c0_i32_1759 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_1758 : BitVec 32 := 1#32
  let v1971 : BitVec 32 := Scalar.muli v133 c1_i32_1758
  let v1972 : BitVec 32 := Scalar.addi c0_i32_1759 v1971
  v1972.toNat
def k0_dev49 (d0 : Dev nD) : Nat :=
  let c0_i32_1791 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_1790 : BitVec 32 := 1#32
  let v2000 : BitVec 32 := Scalar.muli v88 c1_i32_1790
  let v2001 : BitVec 32 := Scalar.addi c0_i32_1791 v2000
  v2001.toNat
def k0_dev50 (d0 : Dev nD) : Nat :=
  let c0_i32_1823 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_1822 : BitVec 32 := 1#32
  let v2029 : BitVec 32 := Scalar.muli v133 c1_i32_1822
  let v2030 : BitVec 32 := Scalar.addi c0_i32_1823 v2029
  v2030.toNat
def k0_dev51 (d0 : Dev nD) : Nat :=
  let c0_i32_1906 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_1905 : BitVec 32 := 1#32
  let v2151 : BitVec 32 := Scalar.muli v88 c1_i32_1905
  let v2152 : BitVec 32 := Scalar.addi c0_i32_1906 v2151
  v2152.toNat
def k0_dev52 (d0 : Dev nD) : Nat :=
  let c0_i32_1938 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_1937 : BitVec 32 := 1#32
  let v2180 : BitVec 32 := Scalar.muli v133 c1_i32_1937
  let v2181 : BitVec 32 := Scalar.addi c0_i32_1938 v2180
  v2181.toNat
def k0_dev53 (d0 : Dev nD) : Nat :=
  let c0_i32_1970 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_1969 : BitVec 32 := 1#32
  let v2209 : BitVec 32 := Scalar.muli v88 c1_i32_1969
  let v2210 : BitVec 32 := Scalar.addi c0_i32_1970 v2209
  v2210.toNat
def k0_dev54 (d0 : Dev nD) : Nat :=
  let c0_i32_2002 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_2001 : BitVec 32 := 1#32
  let v2238 : BitVec 32 := Scalar.muli v133 c1_i32_2001
  let v2239 : BitVec 32 := Scalar.addi c0_i32_2002 v2238
  v2239.toNat
def k0_dev55 (d0 : Dev nD) : Nat :=
  let c0_i32_2034 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_2033 : BitVec 32 := 1#32
  let v2267 : BitVec 32 := Scalar.muli v88 c1_i32_2033
  let v2268 : BitVec 32 := Scalar.addi c0_i32_2034 v2267
  v2268.toNat
def k0_dev56 (d0 : Dev nD) : Nat :=
  let c0_i32_2066 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_2065 : BitVec 32 := 1#32
  let v2296 : BitVec 32 := Scalar.muli v133 c1_i32_2065
  let v2297 : BitVec 32 := Scalar.addi c0_i32_2066 v2296
  v2297.toNat
def k0_dev57 (d0 : Dev nD) : Nat :=
  let c0_i32_2098 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_2097 : BitVec 32 := 1#32
  let v2325 : BitVec 32 := Scalar.muli v88 c1_i32_2097
  let v2326 : BitVec 32 := Scalar.addi c0_i32_2098 v2325
  v2326.toNat
def k0_dev58 (d0 : Dev nD) : Nat :=
  let c0_i32_2130 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_2129 : BitVec 32 := 1#32
  let v2354 : BitVec 32 := Scalar.muli v133 c1_i32_2129
  let v2355 : BitVec 32 := Scalar.addi c0_i32_2130 v2354
  v2355.toNat
def k0_dev59 (d0 : Dev nD) : Nat :=
  let c0_i32_2213 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_2212 : BitVec 32 := 1#32
  let v2476 : BitVec 32 := Scalar.muli v88 c1_i32_2212
  let v2477 : BitVec 32 := Scalar.addi c0_i32_2213 v2476
  v2477.toNat
def k0_dev60 (d0 : Dev nD) : Nat :=
  let c0_i32_2245 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_2244 : BitVec 32 := 1#32
  let v2505 : BitVec 32 := Scalar.muli v133 c1_i32_2244
  let v2506 : BitVec 32 := Scalar.addi c0_i32_2245 v2505
  v2506.toNat
def k0_dev61 (d0 : Dev nD) : Nat :=
  let c0_i32_2277 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_2276 : BitVec 32 := 1#32
  let v2534 : BitVec 32 := Scalar.muli v88 c1_i32_2276
  let v2535 : BitVec 32 := Scalar.addi c0_i32_2277 v2534
  v2535.toNat
def k0_dev62 (d0 : Dev nD) : Nat :=
  let c0_i32_2309 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_2308 : BitVec 32 := 1#32
  let v2563 : BitVec 32 := Scalar.muli v133 c1_i32_2308
  let v2564 : BitVec 32 := Scalar.addi c0_i32_2309 v2563
  v2564.toNat
def k0_dev63 (d0 : Dev nD) : Nat :=
  let c0_i32_2341 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_2340 : BitVec 32 := 1#32
  let v2592 : BitVec 32 := Scalar.muli v88 c1_i32_2340
  let v2593 : BitVec 32 := Scalar.addi c0_i32_2341 v2592
  v2593.toNat
def k0_dev64 (d0 : Dev nD) : Nat :=
  let c0_i32_2373 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_2372 : BitVec 32 := 1#32
  let v2621 : BitVec 32 := Scalar.muli v133 c1_i32_2372
  let v2622 : BitVec 32 := Scalar.addi c0_i32_2373 v2621
  v2622.toNat
def k0_dev65 (d0 : Dev nD) : Nat :=
  let c0_i32_2405 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_2404 : BitVec 32 := 1#32
  let v2650 : BitVec 32 := Scalar.muli v88 c1_i32_2404
  let v2651 : BitVec 32 := Scalar.addi c0_i32_2405 v2650
  v2651.toNat
def k0_dev66 (d0 : Dev nD) : Nat :=
  let c0_i32_2437 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_2436 : BitVec 32 := 1#32
  let v2679 : BitVec 32 := Scalar.muli v133 c1_i32_2436
  let v2680 : BitVec 32 := Scalar.addi c0_i32_2437 v2679
  v2680.toNat
def k0_dev67 (d0 : Dev nD) : Nat :=
  let c0_i32_2520 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_2519 : BitVec 32 := 1#32
  let v2801 : BitVec 32 := Scalar.muli v88 c1_i32_2519
  let v2802 : BitVec 32 := Scalar.addi c0_i32_2520 v2801
  v2802.toNat
def k0_dev68 (d0 : Dev nD) : Nat :=
  let c0_i32_2552 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_2551 : BitVec 32 := 1#32
  let v2830 : BitVec 32 := Scalar.muli v133 c1_i32_2551
  let v2831 : BitVec 32 := Scalar.addi c0_i32_2552 v2830
  v2831.toNat
def k0_dev69 (d0 : Dev nD) : Nat :=
  let c0_i32_2584 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_2583 : BitVec 32 := 1#32
  let v2859 : BitVec 32 := Scalar.muli v88 c1_i32_2583
  let v2860 : BitVec 32 := Scalar.addi c0_i32_2584 v2859
  v2860.toNat
def k0_dev70 (d0 : Dev nD) : Nat :=
  let c0_i32_2616 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_2615 : BitVec 32 := 1#32
  let v2888 : BitVec 32 := Scalar.muli v133 c1_i32_2615
  let v2889 : BitVec 32 := Scalar.addi c0_i32_2616 v2888
  v2889.toNat
def k0_dev71 (d0 : Dev nD) : Nat :=
  let c0_i32_2648 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_2647 : BitVec 32 := 1#32
  let v2917 : BitVec 32 := Scalar.muli v88 c1_i32_2647
  let v2918 : BitVec 32 := Scalar.addi c0_i32_2648 v2917
  v2918.toNat
def k0_dev72 (d0 : Dev nD) : Nat :=
  let c0_i32_2680 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_2679 : BitVec 32 := 1#32
  let v2946 : BitVec 32 := Scalar.muli v133 c1_i32_2679
  let v2947 : BitVec 32 := Scalar.addi c0_i32_2680 v2946
  v2947.toNat
def k0_dev73 (d0 : Dev nD) : Nat :=
  let c0_i32_2712 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_2711 : BitVec 32 := 1#32
  let v2975 : BitVec 32 := Scalar.muli v88 c1_i32_2711
  let v2976 : BitVec 32 := Scalar.addi c0_i32_2712 v2975
  v2976.toNat
def k0_dev74 (d0 : Dev nD) : Nat :=
  let c0_i32_2744 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_2743 : BitVec 32 := 1#32
  let v3004 : BitVec 32 := Scalar.muli v133 c1_i32_2743
  let v3005 : BitVec 32 := Scalar.addi c0_i32_2744 v3004
  v3005.toNat
def k0_dev75 (d0 : Dev nD) : Nat :=
  let c0_i32_2827 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_2826 : BitVec 32 := 1#32
  let v3126 : BitVec 32 := Scalar.muli v88 c1_i32_2826
  let v3127 : BitVec 32 := Scalar.addi c0_i32_2827 v3126
  v3127.toNat
def k0_dev76 (d0 : Dev nD) : Nat :=
  let c0_i32_2859 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_2858 : BitVec 32 := 1#32
  let v3155 : BitVec 32 := Scalar.muli v133 c1_i32_2858
  let v3156 : BitVec 32 := Scalar.addi c0_i32_2859 v3155
  v3156.toNat
def k0_dev77 (d0 : Dev nD) : Nat :=
  let c0_i32_2891 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_2890 : BitVec 32 := 1#32
  let v3184 : BitVec 32 := Scalar.muli v88 c1_i32_2890
  let v3185 : BitVec 32 := Scalar.addi c0_i32_2891 v3184
  v3185.toNat
def k0_dev78 (d0 : Dev nD) : Nat :=
  let c0_i32_2923 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_2922 : BitVec 32 := 1#32
  let v3213 : BitVec 32 := Scalar.muli v133 c1_i32_2922
  let v3214 : BitVec 32 := Scalar.addi c0_i32_2923 v3213
  v3214.toNat
def k0_dev79 (d0 : Dev nD) : Nat :=
  let c0_i32_2955 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_2954 : BitVec 32 := 1#32
  let v3242 : BitVec 32 := Scalar.muli v88 c1_i32_2954
  let v3243 : BitVec 32 := Scalar.addi c0_i32_2955 v3242
  v3243.toNat
def k0_dev80 (d0 : Dev nD) : Nat :=
  let c0_i32_2987 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_2986 : BitVec 32 := 1#32
  let v3271 : BitVec 32 := Scalar.muli v133 c1_i32_2986
  let v3272 : BitVec 32 := Scalar.addi c0_i32_2987 v3271
  v3272.toNat
def k0_dev81 (d0 : Dev nD) : Nat :=
  let c0_i32_3019 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_3018 : BitVec 32 := 1#32
  let v3300 : BitVec 32 := Scalar.muli v88 c1_i32_3018
  let v3301 : BitVec 32 := Scalar.addi c0_i32_3019 v3300
  v3301.toNat
def k0_dev82 (d0 : Dev nD) : Nat :=
  let c0_i32_3051 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_3050 : BitVec 32 := 1#32
  let v3329 : BitVec 32 := Scalar.muli v133 c1_i32_3050
  let v3330 : BitVec 32 := Scalar.addi c0_i32_3051 v3329
  v3330.toNat
def k0_dev83 (d0 : Dev nD) : Nat :=
  let c0_i32_3134 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_3133 : BitVec 32 := 1#32
  let v3451 : BitVec 32 := Scalar.muli v88 c1_i32_3133
  let v3452 : BitVec 32 := Scalar.addi c0_i32_3134 v3451
  v3452.toNat
def k0_dev84 (d0 : Dev nD) : Nat :=
  let c0_i32_3166 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_3165 : BitVec 32 := 1#32
  let v3480 : BitVec 32 := Scalar.muli v133 c1_i32_3165
  let v3481 : BitVec 32 := Scalar.addi c0_i32_3166 v3480
  v3481.toNat
def k0_dev85 (d0 : Dev nD) : Nat :=
  let c0_i32_3198 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_3197 : BitVec 32 := 1#32
  let v3509 : BitVec 32 := Scalar.muli v88 c1_i32_3197
  let v3510 : BitVec 32 := Scalar.addi c0_i32_3198 v3509
  v3510.toNat
def k0_dev86 (d0 : Dev nD) : Nat :=
  let c0_i32_3230 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_3229 : BitVec 32 := 1#32
  let v3538 : BitVec 32 := Scalar.muli v133 c1_i32_3229
  let v3539 : BitVec 32 := Scalar.addi c0_i32_3230 v3538
  v3539.toNat
def k0_dev87 (d0 : Dev nD) : Nat :=
  let c0_i32_3262 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_3261 : BitVec 32 := 1#32
  let v3567 : BitVec 32 := Scalar.muli v88 c1_i32_3261
  let v3568 : BitVec 32 := Scalar.addi c0_i32_3262 v3567
  v3568.toNat
def k0_dev88 (d0 : Dev nD) : Nat :=
  let c0_i32_3294 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_3293 : BitVec 32 := 1#32
  let v3596 : BitVec 32 := Scalar.muli v133 c1_i32_3293
  let v3597 : BitVec 32 := Scalar.addi c0_i32_3294 v3596
  v3597.toNat
def k0_dev89 (d0 : Dev nD) : Nat :=
  let c0_i32_3326 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_3325 : BitVec 32 := 1#32
  let v3625 : BitVec 32 := Scalar.muli v88 c1_i32_3325
  let v3626 : BitVec 32 := Scalar.addi c0_i32_3326 v3625
  v3626.toNat
def k0_dev90 (d0 : Dev nD) : Nat :=
  let c0_i32_3358 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_3357 : BitVec 32 := 1#32
  let v3654 : BitVec 32 := Scalar.muli v133 c1_i32_3357
  let v3655 : BitVec 32 := Scalar.addi c0_i32_3358 v3654
  v3655.toNat
def k0_dev91 (d0 : Dev nD) : Nat :=
  let c0_i32_3441 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_3440 : BitVec 32 := 1#32
  let v3776 : BitVec 32 := Scalar.muli v88 c1_i32_3440
  let v3777 : BitVec 32 := Scalar.addi c0_i32_3441 v3776
  v3777.toNat
def k0_dev92 (d0 : Dev nD) : Nat :=
  let c0_i32_3473 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_3472 : BitVec 32 := 1#32
  let v3805 : BitVec 32 := Scalar.muli v133 c1_i32_3472
  let v3806 : BitVec 32 := Scalar.addi c0_i32_3473 v3805
  v3806.toNat
def k0_dev93 (d0 : Dev nD) : Nat :=
  let c0_i32_3505 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_3504 : BitVec 32 := 1#32
  let v3834 : BitVec 32 := Scalar.muli v88 c1_i32_3504
  let v3835 : BitVec 32 := Scalar.addi c0_i32_3505 v3834
  v3835.toNat
def k0_dev94 (d0 : Dev nD) : Nat :=
  let c0_i32_3537 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_3536 : BitVec 32 := 1#32
  let v3863 : BitVec 32 := Scalar.muli v133 c1_i32_3536
  let v3864 : BitVec 32 := Scalar.addi c0_i32_3537 v3863
  v3864.toNat
def k0_dev95 (d0 : Dev nD) : Nat :=
  let c0_i32_3569 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_3568 : BitVec 32 := 1#32
  let v3892 : BitVec 32 := Scalar.muli v88 c1_i32_3568
  let v3893 : BitVec 32 := Scalar.addi c0_i32_3569 v3892
  v3893.toNat
def k0_dev96 (d0 : Dev nD) : Nat :=
  let c0_i32_3601 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_3600 : BitVec 32 := 1#32
  let v3921 : BitVec 32 := Scalar.muli v133 c1_i32_3600
  let v3922 : BitVec 32 := Scalar.addi c0_i32_3601 v3921
  v3922.toNat
def k0_dev97 (d0 : Dev nD) : Nat :=
  let c0_i32_3633 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_3632 : BitVec 32 := 1#32
  let v3950 : BitVec 32 := Scalar.muli v88 c1_i32_3632
  let v3951 : BitVec 32 := Scalar.addi c0_i32_3633 v3950
  v3951.toNat
def k0_dev98 (d0 : Dev nD) : Nat :=
  let c0_i32_3665 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_3664 : BitVec 32 := 1#32
  let v3979 : BitVec 32 := Scalar.muli v133 c1_i32_3664
  let v3980 : BitVec 32 := Scalar.addi c0_i32_3665 v3979
  v3980.toNat
def k0_dev99 (d0 : Dev nD) : Nat :=
  let c0_i32_3748 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_3747 : BitVec 32 := 1#32
  let v4101 : BitVec 32 := Scalar.muli v88 c1_i32_3747
  let v4102 : BitVec 32 := Scalar.addi c0_i32_3748 v4101
  v4102.toNat
def k0_dev100 (d0 : Dev nD) : Nat :=
  let c0_i32_3780 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_3779 : BitVec 32 := 1#32
  let v4130 : BitVec 32 := Scalar.muli v133 c1_i32_3779
  let v4131 : BitVec 32 := Scalar.addi c0_i32_3780 v4130
  v4131.toNat
def k0_dev101 (d0 : Dev nD) : Nat :=
  let c0_i32_3812 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_3811 : BitVec 32 := 1#32
  let v4159 : BitVec 32 := Scalar.muli v88 c1_i32_3811
  let v4160 : BitVec 32 := Scalar.addi c0_i32_3812 v4159
  v4160.toNat
def k0_dev102 (d0 : Dev nD) : Nat :=
  let c0_i32_3844 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_3843 : BitVec 32 := 1#32
  let v4188 : BitVec 32 := Scalar.muli v133 c1_i32_3843
  let v4189 : BitVec 32 := Scalar.addi c0_i32_3844 v4188
  v4189.toNat
def k0_dev103 (d0 : Dev nD) : Nat :=
  let c0_i32_3876 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_3875 : BitVec 32 := 1#32
  let v4217 : BitVec 32 := Scalar.muli v88 c1_i32_3875
  let v4218 : BitVec 32 := Scalar.addi c0_i32_3876 v4217
  v4218.toNat
def k0_dev104 (d0 : Dev nD) : Nat :=
  let c0_i32_3908 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_3907 : BitVec 32 := 1#32
  let v4246 : BitVec 32 := Scalar.muli v133 c1_i32_3907
  let v4247 : BitVec 32 := Scalar.addi c0_i32_3908 v4246
  v4247.toNat
def k0_dev105 (d0 : Dev nD) : Nat :=
  let c0_i32_3940 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_3939 : BitVec 32 := 1#32
  let v4275 : BitVec 32 := Scalar.muli v88 c1_i32_3939
  let v4276 : BitVec 32 := Scalar.addi c0_i32_3940 v4275
  v4276.toNat
def k0_dev106 (d0 : Dev nD) : Nat :=
  let c0_i32_3972 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_3971 : BitVec 32 := 1#32
  let v4304 : BitVec 32 := Scalar.muli v133 c1_i32_3971
  let v4305 : BitVec 32 := Scalar.addi c0_i32_3972 v4304
  v4305.toNat
def k0_dev107 (d0 : Dev nD) : Nat :=
  let c0_i32_4055 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_4054 : BitVec 32 := 1#32
  let v4426 : BitVec 32 := Scalar.muli v88 c1_i32_4054
  let v4427 : BitVec 32 := Scalar.addi c0_i32_4055 v4426
  v4427.toNat
def k0_dev108 (d0 : Dev nD) : Nat :=
  let c0_i32_4087 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_4086 : BitVec 32 := 1#32
  let v4455 : BitVec 32 := Scalar.muli v133 c1_i32_4086
  let v4456 : BitVec 32 := Scalar.addi c0_i32_4087 v4455
  v4456.toNat
def k0_dev109 (d0 : Dev nD) : Nat :=
  let c0_i32_4119 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_4118 : BitVec 32 := 1#32
  let v4484 : BitVec 32 := Scalar.muli v88 c1_i32_4118
  let v4485 : BitVec 32 := Scalar.addi c0_i32_4119 v4484
  v4485.toNat
def k0_dev110 (d0 : Dev nD) : Nat :=
  let c0_i32_4151 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_4150 : BitVec 32 := 1#32
  let v4513 : BitVec 32 := Scalar.muli v133 c1_i32_4150
  let v4514 : BitVec 32 := Scalar.addi c0_i32_4151 v4513
  v4514.toNat
def k0_dev111 (d0 : Dev nD) : Nat :=
  let c0_i32_4183 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_4182 : BitVec 32 := 1#32
  let v4542 : BitVec 32 := Scalar.muli v88 c1_i32_4182
  let v4543 : BitVec 32 := Scalar.addi c0_i32_4183 v4542
  v4543.toNat
def k0_dev112 (d0 : Dev nD) : Nat :=
  let c0_i32_4215 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_4214 : BitVec 32 := 1#32
  let v4571 : BitVec 32 := Scalar.muli v133 c1_i32_4214
  let v4572 : BitVec 32 := Scalar.addi c0_i32_4215 v4571
  v4572.toNat
def k0_dev113 (d0 : Dev nD) : Nat :=
  let c0_i32_4247 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_4246 : BitVec 32 := 1#32
  let v4600 : BitVec 32 := Scalar.muli v88 c1_i32_4246
  let v4601 : BitVec 32 := Scalar.addi c0_i32_4247 v4600
  v4601.toNat
def k0_dev114 (d0 : Dev nD) : Nat :=
  let c0_i32_4279 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_4278 : BitVec 32 := 1#32
  let v4629 : BitVec 32 := Scalar.muli v133 c1_i32_4278
  let v4630 : BitVec 32 := Scalar.addi c0_i32_4279 v4629
  v4630.toNat
def k0_dev115 (d0 : Dev nD) : Nat :=
  let c0_i32_4362 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_4361 : BitVec 32 := 1#32
  let v4751 : BitVec 32 := Scalar.muli v88 c1_i32_4361
  let v4752 : BitVec 32 := Scalar.addi c0_i32_4362 v4751
  v4752.toNat
def k0_dev116 (d0 : Dev nD) : Nat :=
  let c0_i32_4394 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_4393 : BitVec 32 := 1#32
  let v4780 : BitVec 32 := Scalar.muli v133 c1_i32_4393
  let v4781 : BitVec 32 := Scalar.addi c0_i32_4394 v4780
  v4781.toNat
def k0_dev117 (d0 : Dev nD) : Nat :=
  let c0_i32_4426 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_4425 : BitVec 32 := 1#32
  let v4809 : BitVec 32 := Scalar.muli v88 c1_i32_4425
  let v4810 : BitVec 32 := Scalar.addi c0_i32_4426 v4809
  v4810.toNat
def k0_dev118 (d0 : Dev nD) : Nat :=
  let c0_i32_4458 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_4457 : BitVec 32 := 1#32
  let v4838 : BitVec 32 := Scalar.muli v133 c1_i32_4457
  let v4839 : BitVec 32 := Scalar.addi c0_i32_4458 v4838
  v4839.toNat
def k0_dev119 (d0 : Dev nD) : Nat :=
  let c0_i32_4490 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_4489 : BitVec 32 := 1#32
  let v4867 : BitVec 32 := Scalar.muli v88 c1_i32_4489
  let v4868 : BitVec 32 := Scalar.addi c0_i32_4490 v4867
  v4868.toNat
def k0_dev120 (d0 : Dev nD) : Nat :=
  let c0_i32_4522 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_4521 : BitVec 32 := 1#32
  let v4896 : BitVec 32 := Scalar.muli v133 c1_i32_4521
  let v4897 : BitVec 32 := Scalar.addi c0_i32_4522 v4896
  v4897.toNat
def k0_dev121 (d0 : Dev nD) : Nat :=
  let c0_i32_4554 : BitVec 32 := 0#32
  let c4_i32_41 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_18 : BitVec 32 := 1#32
  let v45 : BitVec 32 := Scalar.addi v44 c1_i32_18
  let c16_i32_19 : BitVec 32 := 16#32
  let v46 : BitVec 32 := Scalar.remsi v45 c16_i32_19
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let c2_i32_33 : BitVec 32 := 2#32
  let c0_i32_34 : BitVec 32 := 0#32
  let v74 : BitVec 1 := Scalar.cmpi .eq c2_i32_33 c0_i32_34
  let c1_i32_35 : BitVec 32 := 1#32
  let v75 : BitVec 32 := Scalar.select v74 c1_i32_35 c2_i32_33
  let v76 : BitVec 32 := Scalar.remsi v63 v75
  let c0_i32_37 : BitVec 32 := 0#32
  let v78 : BitVec 1 := Scalar.cmpi .slt v76 c0_i32_37
  let c0_i32_38 : BitVec 32 := 0#32
  let v79 : BitVec 1 := Scalar.cmpi .slt v75 c0_i32_38
  let v80 : BitVec 1 := Scalar.xori v78 v79
  let c0_i32_36 : BitVec 32 := 0#32
  let v77 : BitVec 1 := Scalar.cmpi .ne v76 c0_i32_36
  let v81 : BitVec 1 := Scalar.andi v80 v77
  let v82 : BitVec 32 := Scalar.addi v76 v75
  let v83 : BitVec 32 := Scalar.select v81 v82 v76
  let c0_i32_39 : BitVec 32 := 0#32
  let v84 : BitVec 1 := Scalar.cmpi .eq v83 c0_i32_39
  let c4_i32_27 : BitVec 32 := 4#32
  let c0_i32_28 : BitVec 32 := 0#32
  let v64 : BitVec 1 := Scalar.cmpi .eq c4_i32_27 c0_i32_28
  let c1_i32_29 : BitVec 32 := 1#32
  let v65 : BitVec 32 := Scalar.select v64 c1_i32_29 c4_i32_27
  let v66 : BitVec 32 := Scalar.remsi v46 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c3_i32_40 : BitVec 32 := 3#32
  let v85 : BitVec 32 := Scalar.subi c3_i32_40 v73
  let v86 : BitVec 32 := Scalar.select v84 v73 v85
  let v87 : BitVec 32 := Scalar.muli c4_i32_41 v86
  let v88 : BitVec 32 := Scalar.addi v87 v63
  let c1_i32_4553 : BitVec 32 := 1#32
  let v4925 : BitVec 32 := Scalar.muli v88 c1_i32_4553
  let v4926 : BitVec 32 := Scalar.addi c0_i32_4554 v4925
  v4926.toNat
def k0_dev122 (d0 : Dev nD) : Nat :=
  let c0_i32_4586 : BitVec 32 := 0#32
  let c4_i32_66 : BitVec 32 := 4#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v43 : BitVec 32 := Scalar.muli c4_i32_17 v12
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v12 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c0_i32_16 : BitVec 32 := 0#32
  let v40 : BitVec 1 := Scalar.cmpi .eq v39 c0_i32_16
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32 : BitVec 32 := 3#32
  let v41 : BitVec 32 := Scalar.subi c3_i32 v29
  let v42 : BitVec 32 := Scalar.select v40 v29 v41
  let v44 : BitVec 32 := Scalar.addi v43 v42
  let c1_i32_42 : BitVec 32 := 1#32
  let v89 : BitVec 32 := Scalar.subi v44 c1_i32_42
  let c16_i32_43 : BitVec 32 := 16#32
  let v90 : BitVec 32 := Scalar.addi v89 c16_i32_43
  let c16_i32_44 : BitVec 32 := 16#32
  let v91 : BitVec 32 := Scalar.remsi v90 c16_i32_44
  let c0_i32_46 : BitVec 32 := 0#32
  let v93 : BitVec 1 := Scalar.cmpi .sgt v91 c0_i32_46
  let v94 : BitVec 32 := Scalar.extui v93
  let c0_i32_47 : BitVec 32 := 0#32
  let v95 : BitVec 1 := Scalar.cmpi .slt v91 c0_i32_47
  let v96 : BitVec 32 := Scalar.extui v95
  let v97 : BitVec 32 := Scalar.subi v94 v96
  let c4_i32_45 : BitVec 32 := 4#32
  let c0_i32_48 : BitVec 32 := 0#32
  let v98 : BitVec 1 := Scalar.cmpi .sgt c4_i32_45 c0_i32_48
  let v99 : BitVec 32 := Scalar.extui v98
  let c0_i32_49 : BitVec 32 := 0#32
  let v100 : BitVec 1 := Scalar.cmpi .slt c4_i32_45 c0_i32_49
  let v101 : BitVec 32 := Scalar.extui v100
  let v102 : BitVec 32 := Scalar.subi v99 v101
  let v103 : BitVec 1 := Scalar.cmpi .ne v97 v102
  let v104 : BitVec 32 := Scalar.remsi v91 c4_i32_45
  let c0_i32_50 : BitVec 32 := 0#32
  let v105 : BitVec 1 := Scalar.cmpi .ne v104 c0_i32_50
  let v106 : BitVec 1 := Scalar.andi v103 v105
  let v92 : BitVec 32 := Scalar.divsi v91 c4_i32_45
  let c1_i32_51 : BitVec 32 := 1#32
  let v107 : BitVec 32 := Scalar.subi v92 c1_i32_51
  let v108 : BitVec 32 := Scalar.select v106 v107 v92
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi v108 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_64 : BitVec 32 := 0#32
  let v129 : BitVec 1 := Scalar.cmpi .eq v128 c0_i32_64
  let c4_i32_52 : BitVec 32 := 4#32
  let c0_i32_53 : BitVec 32 := 0#32
  let v109 : BitVec 1 := Scalar.cmpi .eq c4_i32_52 c0_i32_53
  let c1_i32_54 : BitVec 32 := 1#32
  let v110 : BitVec 32 := Scalar.select v109 c1_i32_54 c4_i32_52
  let v111 : BitVec 32 := Scalar.remsi v91 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c3_i32_65 : BitVec 32 := 3#32
  let v130 : BitVec 32 := Scalar.subi c3_i32_65 v118
  let v131 : BitVec 32 := Scalar.select v129 v118 v130
  let v132 : BitVec 32 := Scalar.muli c4_i32_66 v131
  let v133 : BitVec 32 := Scalar.addi v132 v108
  let c1_i32_4585 : BitVec 32 := 1#32
  let v4954 : BitVec 32 := Scalar.muli v133 c1_i32_4585
  let v4955 : BitVec 32 := Scalar.addi c0_i32_4586 v4954
  v4955.toNat
def k0_off5 (d0 : Dev nD) (c0_i32_4592 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_4591 : BitVec 32 := 128#32
  let v4964 : BitVec 32 := Scalar.muli v2 c128_i32_4591
  let v4965 : BitVec 32 := Scalar.addi v4964 c0_i32_4592
  let v4977 : Index := Scalar.indexCast v4965
  let c0_4607 : Index := 0#32
  ![v4977.toNat, 0]
def k0_off6 (d0 : Dev nD) (c0_i32_4592 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_4591 : BitVec 32 := 128#32
  let v4964 : BitVec 32 := Scalar.muli v2 c128_i32_4591
  let v4965 : BitVec 32 := Scalar.addi v4964 c0_i32_4592
  let v4994 : Index := Scalar.indexCast v4965
  let c1024_4626 : Index := 1024#32
  ![v4994.toNat, 1024]
abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Program.lean ====
/-
  The kernel body written once more, as loops. The printed body is one long list of operations, the loops of the kernel
  unrolled: for each hop and each stripe of 32 rows the same few operations on another slot, another semaphore, another
  neighbour. Here each of these groups is a function of the direction, the slot and the stripe, the body is the loops
  over them, and `body_eq` says that the printed body is this one.
-/
module

public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.RingProof

open Cert.KernelIdeal Cert.KernelIdeal.Gen
open Idealize.ShloMosaic Idealize.SL.Sem

variable {F : FTy → Type} [FloatOps F]

/-! ## Stripes and semaphores -/

/-- Stripe `s` of slot `h` of a communication buffer lies inside it; -/
theorem stripe_inb (h : Fin 16) (s : Fin 4) : ∀ a, (![h.val, 32 * s.val, 0] : Fin 3 → Nat) a + S1x32x1024.size a ≤ S16x128x1024.size a := by
  revert h s; decide
/-- the stripe: 32 rows of one slot; -/
abbrev stripe (h : Fin 16) (s : Fin 4) : Rect S16x128x1024 := Rect.unit (s := S16x128x1024) ![h.val, 32 * s.val, 0] S1x32x1024.size (stripe_inb h s)
/-- it is made of whole words, -/
theorem stripe_words (h : Fin 16) (s : Fin 4) : (stripe h s).WholeWords (EltTy.packing .bf16) := by revert h s; decide
/-- and of whole packed rows. -/
theorem stripe_packed (h : Fin 16) (s : Fin 4) : (stripe h s).PackedRows (EltTy.packing .bf16) := by revert h s; decide

/-- A send semaphore lies within its array, -/
theorem cell15_inb (h : Fin 15) (s : Fin 4) : ∀ a, (![h.val, s.val] : Fin 2 → Nat) a + S1x1.size a ≤ S15x4.size a := by revert h s; decide
/-- a receive semaphore too, -/
theorem cell16_inb (h : Fin 16) (s : Fin 4) : ∀ a, (![h.val, s.val] : Fin 2 → Nat) a + S1x1.size a ≤ S16x4.size a := by revert h s; decide

/-- The send semaphore of slot `h`, stripe `s`; -/
abbrev sendSem (a : DmaSems sig S15x4) (h : Fin 15) (s : Fin 4) : DmaSems sig S_ :=
  (a.slice (Rect.unit (s := S15x4) ![h.val, s.val] S1x1.size (cell15_inb h s))).squeeze S_ squeezes_S1x1_S_
/-- the receive semaphore of slot `h`, stripe `s`. -/
abbrev recvSem (a : DmaSems sig S16x4) (h : Fin 16) (s : Fin 4) : DmaSems sig S_ :=
  (a.slice (Rect.unit (s := S16x4) ![h.val, s.val] S1x1.size (cell16_inb h s))).squeeze S_ squeezes_S1x1_S_

/-- Stripe `s` of slot `h` as a view of its 32 rows. -/
abbrev stripeV (b : Memref sig .tc .vmem S16x128x1024 .bf16) (h : Fin 16) (s : Fin 4) : Memref sig .tc .vmem S32x1024 .bf16 :=
  (b.slice (stripe h s) (fun _ => rfl)).squeeze S32x1024 squeezes_S1x32x1024_S32x1024

/-- a stripe of the result within the block, -/
theorem out_inb (s : Fin 4) (lo : Fin 2) : ∀ a, (![32 * s.val, 1024 * lo.val] : Fin 2 → Nat) a + S32x1024.size a ≤ S128x2048.size a := by revert s lo; decide
/-- half the columns of `w` too. -/
theorem w_inb (lo : Fin 2) : ∀ a, (![0, 1024 * lo.val] : Fin 2 → Nat) a + S128x1024.size a ≤ S128x2048.size a := by revert lo; decide
/-- Stripe `s` of the result's left or right half. -/
abbrev outR (s : Fin 4) (lo : Fin 2) : Rect S128x2048 := Rect.unit (s := S128x2048) ![32 * s.val, 1024 * lo.val] S32x1024.size (out_inb s lo)
/-- The left or right half of the columns of the device's block of `w`. -/
abbrev wR (lo : Fin 2) : Rect S128x2048 := Rect.unit (s := S128x2048) ![0, 1024 * lo.val] S128x1024.size (w_inb lo)

/-! ## Loops -/

/-- `f 0`, `f 1`, …, `f (n-1)` one after the other. -/
def loop {E : Type → Type} : (n : ℕ) → (Fin n → Prog E PUnit) → Prog E PUnit
  | 0, _ => .ret ⟨⟩
  | n + 1, f => (f 0).bind fun _ => loop n fun i => f i.succ

/-! ## The groups of operations -/

section Groups

variable (b : Memref sig .tc .vmem S16x128x1024 .bf16) (hb : b.IsWhole)
  (ss : DmaSems sig S15x4) (rs : DmaSems sig S16x4) (tgt : Dev nD)

/-- Send stripe `s` of slot `h` into the neighbour's slot `h + 1`. -/
def sendOp (h : Fin 15) (s : Fin 4) : Prog (TpuEff nD τ sig (Elt F) Λ₀ .tc) PUnit :=
  .op (.enqueueDma (stripeV b h.castSucc s) (.remote (Dev.tc tgt) (stripeV b h.succ s) (.dma (sendSem ss h s).sem)) (.dma (recvSem rs h.succ s).sem)
    ((hb.wordExact_slice rfl _ (stripe_words h.castSucc s)).reshape _ _) ((hb.wordExact_slice rfl _ (stripe_words h.succ s)).reshape _ _) ⟨⟨rfl, Or.inl rfl⟩, trivial⟩) .ret

/-- Wait until stripe `s` of slot `h` has arrived. -/
def recvOp (h : Fin 16) (s : Fin 4) : Prog (TpuEff nD τ sig (Elt F) Λ₀ .tc) PUnit :=
  .op (.waitDma2 (recvSem rs h s).sem (stripeV b h s) (stripeV b h s)
    ((hb.wordExact_slice rfl _ (stripe_words h s)).reshape _ _) ((hb.wordExact_slice rfl _ (stripe_words h s)).reshape _ _)) .ret

/-- Wait until stripe `s` of slot `h` has left. -/
def sentOp (h : Fin 15) (s : Fin 4) : Prog (TpuEff nD τ sig (Elt F) Λ₀ .tc) PUnit :=
  .op (.waitDma2 (sendSem ss h s).sem (stripeV b h.succ s) (stripeV b h.castSucc s)
    ((hb.wordExact_slice rfl _ (stripe_words h.succ s)).reshape _ _) ((hb.wordExact_slice rfl _ (stripe_words h.castSucc s)).reshape _ _)) .ret

/-- Load stripe `s` of slot `h`. -/
def loadOp (h : Fin 16) (s : Fin 4) : Prog (TpuEff nD τ sig (Elt F) Λ₀ .tc) (Vec F S1x32x1024 .bf16) :=
  .op (.load b (stripe h s).toLoadRect (View.loadsAt_vmem h_S1x32x1024)) .ret
/-- Store stripe `s` of slot `h`. -/
def storeOp (h : Fin 16) (s : Fin 4) (v : Vec F S1x32x1024 .bf16) : Prog (TpuEff nD τ sig (Elt F) Λ₀ .tc) PUnit :=
  .op (.store b (stripe h s) v Finset.univ (View.stores_vmem h_S1x32x1024 (hb.storeExact_slice rfl _ (stripe_packed h s)) (fun _ => rfl)) (.inl rfl)) .ret

/-- Store into slot 0, stripe `s`, the product of 32 rows of `x` with one half of `w`. -/
def firstOp (x : Memref sig .tc .vmem S2048x128 .f32) (w : Memref sig .tc .vmem S128x2048 .f32) (lo : Fin 2)
    (off : Fin 2 → Nat) (ho : ∀ a, off a + S32x128.size a ≤ S2048x128.size a) (s : Fin 4) : Prog (TpuEff nD τ sig (Elt F) Λ₀ .tc) PUnit :=
  .op (.load x (Rect.unit (s := S2048x128) off S32x128.size ho).toLoadRect (View.loadsAt_vmem h_S32x128)) fun xs =>
  .op (.load w (wR lo).toLoadRect (View.loadsAt_vmem h_S128x1024)) fun ws =>
  (loadOp b 0 s).bind fun _ => storeOp b hb 0 s (k0_pay1 xs ws)

/-- One hop of one stripe: wait for it, add the device's own part, send it on. -/
def hopOp (p : Memref sig .tc .vmem S2048x2048 .f32) (h : Fin 14) (s : Fin 4)
    (off : Fin 2 → Nat) (ho : ∀ a, off a + S32x1024.size a ≤ S2048x2048.size a) : Prog (TpuEff nD τ sig (Elt F) Λ₀ .tc) PUnit :=
  (recvOp b hb rs h.succ.castSucc s).bind fun _ =>
  (loadOp b h.succ.castSucc s).bind fun v =>
  .op (.load p (Rect.unit (s := S2048x2048) off S32x1024.size ho).toLoadRect (View.loadsAt_vmem h_S32x1024)) fun q =>
  (loadOp b h.succ.castSucc s).bind fun _ =>
  (storeOp b hb h.succ.castSucc s (k0_pay11 v q)).bind fun _ =>
  sendOp b hb ss rs tgt h.succ s

/-- The last hop of one stripe: wait for it, add the device's own part, and store it where it is positive. -/
def lastOp (p : Memref sig .tc .vmem S2048x2048 .f32) (o : Memref sig .tc .vmem S128x2048 .f32) (lo : Fin 2) (s : Fin 4)
    (off : Fin 2 → Nat) (ho : ∀ a, off a + S32x1024.size a ≤ S2048x2048.size a) : Prog (TpuEff nD τ sig (Elt F) Λ₀ .tc) PUnit :=
  (recvOp b hb rs 15 s).bind fun _ =>
  (loadOp b 15 s).bind fun v =>
  .op (.load p (Rect.unit (s := S2048x2048) off S32x1024.size ho).toLoadRect (View.loadsAt_vmem h_S32x1024)) fun q =>
  .op (.load o (outR s lo).toLoadRect (View.loadsAt_vmem h_S32x1024)) fun _ =>
  .op (.store o (outR s lo) (k0_pay140 v q) Finset.univ (View.stores_vmem_bits_univ h_S32x1024 rfl) (.inl rfl)) .ret

end Groups

/-- The neighbour to the left, -/
def lf (d : Dev nD) : Dev nD := ⟨k0_dev1 d, k0_dev1_lt d⟩
/-- and to the right, on the ring. -/
def rt (d : Dev nD) : Dev nD := ⟨k0_dev2 d, k0_dev2_lt d⟩

section Body

variable (x : Memref sig .tc .vmem S2048x128 .f32) (w : Memref sig .tc .vmem S128x2048 .f32) (o : Memref sig .tc .vmem S128x2048 .f32)
  (br : Memref sig .tc .vmem S16x128x1024 .bf16) (hbr : br.IsWhole) (bl : Memref sig .tc .vmem S16x128x1024 .bf16) (hbl : bl.IsWhole)
  (p : Memref sig .tc .vmem S2048x2048 .f32) (sr sl : DmaSems sig S15x4) (rr rl : DmaSems sig S16x4)

/-- The barrier semaphore. -/
abbrev barS : Sem sig := (SemArray.scalar (sig.barrier 0 rfl) : Sems sig S_).sem

/-- The program of device `d`. -/
def bodyAt (d : Dev nD) : Prog (TpuEff nD τ sig (Elt F) Λ₀ .tc) PUnit :=
  (semSignalWord (lf d) barS 1#32).bind fun _ =>
  (semSignalWord (rt d) barS 1#32).bind fun _ =>
  (firstOp br hbr x w 0 (k0_off1 d (BitVec.ofNat 32 (32 * (0 : Fin 4).val))) (k0_off1_inb d 0) 0).bind fun _ =>
  (firstOp bl hbl x w 1 (k0_off2 d (BitVec.ofNat 32 (32 * (0 : Fin 4).val))) (k0_off2_inb d 0) 0).bind fun _ =>
  (semWaitWord barS 2#32).bind fun _ =>
  (sendOp br hbr sr rr (rt d) 0 0).bind fun _ =>
  (sendOp bl hbl sl rl (lf d) 0 0).bind fun _ =>
  (loop 3 fun s =>
    (firstOp br hbr x w 0 (k0_off1 d (BitVec.ofNat 32 (32 * s.succ.val))) (k0_off1_inb d s.succ) s.succ).bind fun _ =>
    (sendOp br hbr sr rr (rt d) 0 s.succ).bind fun _ =>
    (firstOp bl hbl x w 1 (k0_off2 d (BitVec.ofNat 32 (32 * s.succ.val))) (k0_off2_inb d s.succ) s.succ).bind fun _ =>
    sendOp bl hbl sl rl (lf d) 0 s.succ).bind fun _ =>
  .op (.load x (Rect.unit (s := S2048x128) ![0, 0] S2048x128.size inb_S2048x128_S2048x128_0_0).toLoadRect (View.loadsAt_vmem h_S2048x128)) fun xs =>
  .op (.load w (Rect.unit (s := S128x2048) ![0, 0] S128x2048.size inb_S128x2048_S128x2048_0_0).toLoadRect (View.loadsAt_vmem h_S128x2048)) fun ws =>
  .op (.load p (Rect.unit (s := S2048x2048) ![0, 0] S2048x2048.size inb_S2048x2048_S2048x2048_0_0).toLoadRect (View.loadsAt_vmem h_S2048x2048)) fun _ =>
  .op (.store p (Rect.unit (s := S2048x2048) ![0, 0] S2048x2048.size inb_S2048x2048_S2048x2048_0_0) (k0_pay10 xs ws) Finset.univ (View.stores_vmem_bits_univ h_S2048x2048 rfl) (.inl rfl)) fun _ =>
  (loop 14 fun h => loop 4 fun s =>
    (hopOp br hbr sr rr (rt d) p h s (k0_off3 d (BitVec.ofNat 32 (1 + h.val)) (BitVec.ofNat 32 (32 * s.val))) (k0_off3_inb d h s)).bind fun _ =>
    hopOp bl hbl sl rl (lf d) p h s (k0_off4 d (BitVec.ofNat 32 (1 + h.val)) (BitVec.ofNat 32 (32 * s.val))) (k0_off4_inb d h s)).bind fun _ =>
  (loop 4 fun s =>
    (lastOp br hbr rr p o 0 s (k0_off5 d (BitVec.ofNat 32 (32 * s.val))) (k0_off5_inb d s)).bind fun _ =>
    lastOp bl hbl rl p o 1 s (k0_off6 d (BitVec.ofNat 32 (32 * s.val))) (k0_off6_inb d s)).bind fun _ =>
  loop 15 fun h => loop 4 fun s => (sentOp br hbr sr h s).bind fun _ => sentOp bl hbl sl h s

end Body

set_option maxRecDepth 100000 in
/-- The printed body is the loops. -/
theorem body_eq (x : Memref sig .tc .vmem S2048x128 .f32) (hx : x.IsWhole) (w : Memref sig .tc .vmem S128x2048 .f32) (hw : w.IsWhole)
    (o : Memref sig .tc .vmem S128x2048 .f32) (ho : o.IsWhole)
    (br : Memref sig .tc .vmem S16x128x1024 .bf16) (hbr : br.IsWhole) (bl : Memref sig .tc .vmem S16x128x1024 .bf16) (hbl : bl.IsWhole)
    (p : Memref sig .tc .vmem S2048x2048 .f32) (hp : p.IsWhole) (sr sl : DmaSems sig S15x4) (rr rl : DmaSems sig S16x4) :
    cc0_body (F := F) x hx w hw o ho br hbr bl hbl p hp sr sl rr rl
      = .op .deviceId fun d => bodyAt x w o br hbr bl hbl p sr sl rr rl d := by
  chain_rfl

end Cert.RingProof

end
-- ==== Proof.Common.lean ====
/-
  The ring's protocol: who hands what to whom, by which semaphore.

  Two chains of partial sums run around the sixteen devices at once, one to the right through the buffer `bufM false` and
  one to the left through `bufM true`; a direction is a `Bool`, and `next a` is the neighbour a device sends to in
  direction `a`. A buffer has sixteen slots of four stripes; a transfer takes a stripe of slot `h` to the same stripe of
  the neighbour's slot `h + 1`. Every semaphore is used for one round.

  * the barrier: two units, one from each neighbour. The neighbour `next a c` hands `c` its own slots 1, …, 15 of
    `bufM a`, the places `c` is going to write to in that direction;
  * a receive semaphore of slot `h ≥ 1`: the stripe that landed, holding the partial sum it was sent with;
  * a send semaphore of slot `h ≤ 14`: the stripe that was sent, back.
-/
module

public import proofs.«01_k».proof.Proof.Program
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline's and the ring's rounds, each in its own component -/

/-- The ghost state of the ring's semaphores, -/
abbrev UB : Type := URounds (GSem nD τ sig) Bool
/-- and together with that of the launch. -/
abbrev UU : Type := UR sig nD τ × UB

local notation "𝕄" => MT nD τ sig Unit (Elt F) ℕ UU ℕ

/-- Where the launch's part lies in the whole, -/
abbrev EP : Emb (UR sig nD τ) (MT nD τ sig Unit (Elt F) ℕ UU ℕ) := embL
/-- and the ring's. -/
abbrev ER : Emb UB (MT nD τ sig Unit (Elt F) ℕ UU ℕ) := embR

/-! ## The ring -/

/-- The neighbour a device sends to in direction `a`. -/
def next (a : Bool) (c : Dev nD) : Dev nD := if a then lf c else rt c

/-- The neighbour in the other direction is the one it receives from. -/
theorem next_next (a : Bool) (c : Dev nD) : next a (next (!a) c) = c := by
  revert a c; decide +kernel
/-- The same the other way round. -/
theorem next_next' (a : Bool) (c : Dev nD) : next (!a) (next a c) = c := by
  revert a c; decide +kernel

/-- A step in direction `a`, as a permutation of the devices. -/
def nextE (a : Bool) : Dev nD ≃ Dev nD := ⟨next a, next (!a), next_next' a, next_next a⟩

/-- Different devices have different neighbours. -/
theorem next_inj {a : Bool} {c c' : Dev nD} (h : next a c = next a c') : c = c' := (nextE a).injective h

/-! ## Buffers and semaphores by direction -/

/-- The buffer whose slots the stripe sums of a direction go through, -/
abbrev bufM : Bool → Memref sig .tc .vmem S16x128x1024 .bf16
  | false => Memref.whole cc0_scratch0
  | true => Memref.whole cc0_scratch1
/-- a whole scratch buffer; -/
theorem bufM_whole : ∀ a, (bufM a).IsWhole
  | false => Memref.isWhole_whole _
  | true => Memref.isWhole_whole _
/-- the semaphores of the copies sent in a direction, -/
abbrev sendA : Bool → DmaSems sig S15x4 | false => cc0_scratch3 | true => cc0_scratch4
/-- and of those received. -/
abbrev recvA : Bool → DmaSems sig S16x4 | false => cc0_scratch5 | true => cc0_scratch6

/-- A transfer, or a stripe that one fills: direction, slot it leaves, stripe. -/
abbrev Hop : Type := Fin 15 × Fin 4
/-- A send or a receive semaphore. -/
abbrev Own : Type := (Bool × Hop) ⊕ (Bool × (Fin 16 × Fin 4))
/-- The ring's semaphores: the barrier and these. -/
abbrev Cell : Type := Unit ⊕ Own

/-- The semaphore of a cell of a device's own, -/
def ownSem : Own → DmaSem sig
  | .inl (a, h, s) => (sendSem (sendA a) h s).sem
  | .inr (a, h, s) => (recvSem (recvA a) h s).sem
/-- as a location, -/
def osem (k : Own) : SemLoc sig := .dma (ownSem k)
/-- and with the barrier's among them. -/
def csem : Cell → SemLoc sig
  | .inl _ => .reg barS
  | .inr k => osem k

/-- The numbers of the semaphores. -/
theorem ownSem_val : ∀ k, (ownSem k).val = match k with
  | .inl (a, h, s) => 3 + (if a then 60 else 0) + 4 * h.val + s.val
  | .inr (a, h, s) => 123 + (if a then 64 else 0) + 4 * h.val + s.val := by decide +kernel

/-- No two of them are one. -/
theorem ownSem_inj : Function.Injective ownSem := by
  rintro (⟨a, h, s⟩ | ⟨a, h, s⟩) (⟨a', h', s'⟩ | ⟨a', h', s'⟩) e <;> have e' := congrArg Fin.val e <;>
    rw [ownSem_val, ownSem_val] at e' <;> have := h.isLt <;> have := h'.isLt <;> have := s.isLt <;> have := s'.isLt <;>
    cases a <;> cases a' <;> simp only [if_true, if_false, Bool.false_eq_true] at e' <;>
    first
      | (obtain rfl : h = h' := Fin.ext (by omega)
         obtain rfl : s = s' := Fin.ext (by omega)
         rfl)
      | omega

/-- Different cells have different semaphores, -/
theorem osem_inj : Function.Injective osem := fun _ _ h => ownSem_inj (SemLoc.dma.inj h)

/-- the barrier's included. -/
theorem csem_inj : Function.Injective csem := by
  rintro (⟨⟩ | k) (⟨⟩ | k') h
  · rfl
  · exact absurd h (fun h' => by cases h')
  · exact absurd h (fun h' => by cases h')
  · exact congrArg Sum.inr (osem_inj h)

/-- The ring's use of a semaphore, if it has one. -/
def dec : SemLoc sig → Option Cell := Function.partialInv csem
/-- The cell of a cell's semaphore is that cell; -/
theorem dec_csem (k : Cell) : dec (csem k) = some k := Function.partialInv_left csem_inj k
/-- and only that semaphore has it. -/
theorem dec_some {sm : SemLoc sig} {k : Cell} (h : dec sm = some k) : sm = csem k :=
  ((Function.partialInv_of_injective csem_inj k sm).mp h).symm

/-- Device `c`'s cell of a kind. -/
abbrev kcell (ck : Dev nD × Cell) : GSem nD τ sig := ((ck.1 : Thread nD τ), csem ck.2)
/-- The barrier's cell on a device, -/
abbrev barCell (c : Dev nD) : GSem nD τ sig := kcell (c, .inl ())
/-- a send cell, -/
abbrev sendCell (a : Bool) (c : Dev nD) (j : Hop) : GSem nD τ sig := kcell (c, .inr (.inl (a, j)))
/-- The receive cell of the stripe that hop `j` fills. -/
abbrev recvCell (a : Bool) (c : Dev nD) (j : Hop) : GSem nD τ sig := kcell (c, .inr (.inr (a, j.1.succ, j.2)))

/-- Different cells of different devices are different. -/
theorem kcell_inj : Function.Injective (kcell : Dev nD × Cell → GSem nD τ sig) := by
  rintro ⟨c, k⟩ ⟨c', k'⟩ h
  obtain rfl : c = c' := congrArg (fun g : GSem nD τ sig => g.1.1) h
  obtain rfl : k = k' := csem_inj (congrArg Prod.snd h)
  rfl

/-! ## Stripes -/

section Stripes

variable (a : Bool) (h : Fin 16) (s : Fin 4)

/-- The elements of a stripe, whatever `f` holds elsewhere. -/
def stripePts (c : Dev nD) (f : Buf (Elt F) ((stripeV (bufM a) h s).view.loc (c : Thread nD τ))) : sProp 𝕄 :=
  (stripeV (bufM a) h s).view.loc (c : Thread nD τ) ↦[(stripeV (bufM a) h s).view.set]{fullShare} f

/-- What a load of the stripe gives. -/
def stripeRd (f : (bufM a).view.ty.Contents (Elt F)) : Vec F S1x32x1024 .bf16 :=
  (bufM a).view.readAt (Elt F) (stripe h s).toLoadRect f

/-- The stripe, holding `v`; -/
def holds (c : Dev nD) (v : Vec F S1x32x1024 .bf16) : sProp 𝕄 :=
  iprop(∃ f : Buf (Elt F) ((stripeV (bufM a) h s).view.loc (c : Thread nD τ)), ⌜stripeRd a h s f = v⌝ ∗ stripePts a h s c f)
/-- the stripe, holding anything. -/
def some_ (c : Dev nD) : sProp 𝕄 :=
  iprop(∃ f : Buf (Elt F) ((stripeV (bufM a) h s).view.loc (c : Thread nD τ)), stripePts a h s c f)

omit [FloatOps F] in
/-- Stripes can be put into an invariant, -/
instance stripePts_storable (c : Dev nD) (f) : BI.Storable (upEmb : UEmb _ 𝕄) (stripePts (F := F) a h s c f) := by unfold stripePts; infer_instance
omit [FloatOps F] in
/-- with known contents -/
instance holds_storable (c : Dev nD) (v) : BI.Storable (upEmb : UEmb _ 𝕄) (holds (F := F) a h s c v) := by unfold holds; infer_instance
omit [FloatOps F] in
/-- or unknown ones. -/
instance some_storable (c : Dev nD) : BI.Storable (upEmb : UEmb _ 𝕄) (some_ (F := F) a h s c) := by unfold some_; infer_instance

omit [FloatOps F] in
/-- Known contents may be forgotten, -/
theorem holds_some (c : Dev nD) (v : Vec F S1x32x1024 .bf16) : holds a h s c v ⊢ some_ a h s c := by
  unfold holds some_
  iintro ⟨%f, -, H⟩
  iexists f; iexact H

omit [FloatOps F] in
/-- and unknown ones named. -/
theorem some_holds (c : Dev nD) : some_ (F := F) a h s c ⊢ iprop(∃ v, holds a h s c v) := by
  unfold holds some_
  iintro ⟨%f, H⟩
  iexists (stripeRd a h s f); iexists f
  isplitr; · (ipureintro; rfl)
  iexact H

/-- The elements of a stripe are those of its rectangle. -/
theorem stripe_set : (stripeV (bufM a) h s).view.set = ((bufM a).access (stripe h s) : View sig .tc _ _ _).set :=
  View.set_reshape _ _

omit [FloatOps F] in
/-- A stripe sent to another slot's place reads there what it read. -/
theorem stripeRd_landed (h' : Fin 16) (fd fs : (bufM a).view.ty.Contents (Elt F)) :
    stripeRd a h' s ((stripeV (bufM a) h' s).view.write (Elt F) fd ((stripeV (bufM a) h s).view.read (Elt F) fs) Finset.univ) = stripeRd a h s fs := by
  have e := View.read_write_univ (v := (stripeV (bufM a) h' s).view) fd ((stripeV (bufM a) h s).view.read (Elt F) fs)
  funext i
  obtain ⟨j, rfl⟩ := (Shape.reshapeEquiv (s := S1x32x1024) (s' := S32x1024) squeezes_S1x32x1024_S32x1024.numel_eq).surjective i
  exact congrFun e j

omit [FloatOps F] in
/-- A stripe stored to reads what was stored. -/
theorem stripeRd_stored (f : (bufM a).view.ty.Contents (Elt F)) (v : Vec F S1x32x1024 .bf16) :
    stripeRd a h s (((bufM a).access (stripe h s) : View sig .tc _ _ _).write (Elt F) f v Finset.univ) = v := by
  unfold stripeRd
  rw [View.readAt_rect]
  exact View.read_write_univ _ _

end Stripes

/-! ## The schedule -/

/-- The credit of one stripe's transfer. -/
abbrev N : ℕ := (stripeV (bufM false) 0 0).view.dmaCredit
/-- A stripe's copy pays something, -/
theorem N_pos : 0 < N := View.dmaCredit_pos _ (by decide)
/-- and each stripe's the same. -/
theorem credit_eq (a : Bool) (h : Fin 16) (s : Fin 4) : (stripeV (bufM a) h s).view.dmaCredit = N := by cases a <;> rfl

section Sched

variable (V : Bool → Dev nD → Hop → Vec F S1x32x1024 .bf16)

/-- The duties of a cell's one round, by its use: the barrier's two, one per direction; one for a transfer; none for a
    receive semaphore of slot 0, which nothing uses. -/
def dutiesOf : Option Cell → Finset Bool
  | some (.inl _) => Finset.univ
  | some (.inr (.inl _)) => {false}
  | some (.inr (.inr (_, h, _))) => if h = 0 then ∅ else {false}
  | none => ∅

/-- How much one duty of a cell pays. -/
def amountOf : Option Cell → ℕ
  | some (.inl _) => 1
  | _ => N

/-- What a device's barrier hands it for direction `a`: the slots of the neighbour it is going to write to. -/
def barPay (c : Dev nD) (a : Bool) : sProp 𝕄 := bigSep Finset.univ fun j : Hop => some_ a j.1.succ j.2 (next a c)
omit [FloatOps F] in
/-- What the barrier hands over can be put into an invariant. -/
instance barPay_storable (c : Dev nD) (a : Bool) : BI.Storable (upEmb : UEmb _ 𝕄) (barPay (F := F) c a) := by unfold barPay; infer_instance

/-- What a cell hands its owner `c`. -/
def payOf (c : Dev nD) (d : Bool) : Option Cell → sProp 𝕄
  | some (.inl _) => barPay c d
  | some (.inr (.inl (a, j))) => some_ a j.1.castSucc j.2 c
  | some (.inr (.inr (a, h, s))) => Fin.cases iprop(emp) (fun k => holds a k.succ s c (V a (next (!a) c) (k, s))) h
  | none => iprop(emp)

/-- The whole schedule: one round for each cell, with its duties, amounts and payloads. -/
def sched : Rounds.Schedule (GSem nD τ sig) Bool 𝕄 where
  duties g r := if r = 0 ∧ g.1.2 = .tc then dutiesOf (dec g.2) else ∅
  unitless _ := False
  amount g _ _ := amountOf (dec g.2)
  payload g _ d := payOf V g.1.1 d (dec g.2)
  amount_pos g _ _ _ := by
    unfold amountOf; split
    · exact Nat.one_pos
    · exact N_pos

/-- Every payload can be put into an invariant. -/
instance sched_payload_storable (g : GSem nD τ sig) (r : ℕ) (d : Bool) :
    BI.Storable (upEmb : UEmb _ 𝕄) ((sched (F := F) V).payload g r d) := by
  show BI.Storable upEmb (payOf V g.1.1 d (dec g.2))
  rcases dec g.2 with _ | (_ | (⟨a, j⟩ | ⟨a, h, s⟩))
  · exact inferInstanceAs (BI.Storable upEmb iprop(emp))
  · exact inferInstanceAs (BI.Storable upEmb (barPay _ d))
  · exact inferInstanceAs (BI.Storable upEmb (some_ _ _ _ _))
  · refine Fin.cases ?_ (fun k => ?_) h
    · exact inferInstanceAs (BI.Storable upEmb iprop(emp))
    · exact inferInstanceAs (BI.Storable upEmb (holds _ _ _ _ _))

omit [FloatOps F] in
/-- The schedule read at a cell: its duties, -/
theorem duties_kcell (c : Dev nD) (k : Cell) : (sched V).duties (kcell (c, k)) 0 = dutiesOf (some k) := by
  unfold sched; dsimp only
  rw [if_pos ⟨rfl, rfl⟩, dec_csem]
omit [FloatOps F] in
/-- none after the first round, -/
theorem duties_later (g : GSem nD τ sig) : ∀ r, 1 ≤ r → (sched V).duties g r = ∅ :=
  fun r hr => if_neg fun h => by omega
omit [FloatOps F] in
/-- its amounts -/
theorem amount_kcell (c : Dev nD) (k : Cell) (d : Bool) : (sched V).amount (kcell (c, k)) 0 d = amountOf (some k) := by
  show amountOf (dec (csem k)) = _
  rw [dec_csem]
omit [FloatOps F] in
/-- and its payloads. -/
theorem payload_kcell (c : Dev nD) (k : Cell) (d : Bool) : (sched V).payload (kcell (c, k)) 0 d = payOf V c d (some k) := by
  show payOf V c d (dec (csem k)) = _
  rw [dec_csem]

variable (a : Bool) (c : Dev nD) (j : Hop)

omit [FloatOps F] in
/-- The barrier has a duty from either side, -/
theorem duties_bar : (sched V).duties (barCell c) 0 = Finset.univ := duties_kcell V c _
omit [FloatOps F] in
/-- a send cell one, -/
theorem duties_send : (sched V).duties (sendCell a c j) 0 = {false} := duties_kcell V c _
omit [FloatOps F] in
/-- a receive cell one. -/
theorem duties_recv : (sched V).duties (recvCell a c j) 0 = {false} :=
  (duties_kcell V c _).trans (by unfold dutiesOf; exact if_neg (Fin.succ_ne_zero j.1))
omit [FloatOps F] in
/-- A receive semaphore of slot 0 never has a duty. -/
theorem duties_unused (s : Fin 4) : ∀ r, 0 ≤ r → (sched V).duties (kcell (c, .inr (.inr (a, 0, s)))) r = ∅ := by
  rintro (_ | r) -
  · exact (duties_kcell V c _).trans (by unfold dutiesOf; exact if_pos rfl)
  · exact duties_later V _ _ (Nat.succ_pos r)

omit [FloatOps F] in
/-- A signal pays one unit to the barrier, -/
theorem amount_bar (d : Bool) : (sched V).amount (barCell c) 0 d = 1 := amount_kcell V c _ d
omit [FloatOps F] in
/-- a copy its credit to the send cell -/
theorem amount_send (d : Bool) : (sched V).amount (sendCell a c j) 0 d = N := amount_kcell V c _ d
omit [FloatOps F] in
/-- and to the receive cell. -/
theorem amount_recv (d : Bool) : (sched V).amount (recvCell a c j) 0 d = N := amount_kcell V c _ d

omit [FloatOps F] in
/-- A signal hands over the slots that the signaller receives into, -/
theorem payload_bar (d : Bool) : (sched V).payload (barCell c) 0 d = barPay c d := payload_kcell V c _ d
omit [FloatOps F] in
/-- a finished send gives its source back, -/
theorem payload_send (d : Bool) : (sched V).payload (sendCell a c j) 0 d = some_ a j.1.castSucc j.2 c := payload_kcell V c _ d
omit [FloatOps F] in
/-- and a landing hands over the stripe with what was sent. -/
theorem payload_recv (d : Bool) : (sched V).payload (recvCell a c j) 0 d = holds a j.1.succ j.2 c (V a (next (!a) c) j) := payload_kcell V c _ d

omit [FloatOps F] in
/-- So a barrier's round brings two units, -/
theorem expect_bar : (sched V).expect (barCell c) 0 = 2 := by
  unfold Schedule.expect Schedule.amountOf
  rw [duties_bar, Finset.sum_congr rfl fun d _ => amount_bar V c d, Finset.sum_const, Finset.card_univ, Fintype.card_bool, smul_eq_mul]
omit [FloatOps F] in
/-- a send cell's one copy's credit, -/
theorem expect_send : (sched V).expect (sendCell a c j) 0 = N := by
  unfold Schedule.expect Schedule.amountOf; rw [duties_send, Finset.sum_singleton, amount_send]
omit [FloatOps F] in
/-- and a receive cell's as well. -/
theorem expect_recv : (sched V).expect (recvCell a c j) 0 = N := by
  unfold Schedule.expect Schedule.amountOf; rw [duties_recv, Finset.sum_singleton, amount_recv]

omit [FloatOps F] in
/-- The barrier's round hands over both neighbours' slots; -/
theorem rest_bar : bigSep ((sched V).duties (barCell c) 0 \ ∅) (fun d => (sched V).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
omit [FloatOps F] in
/-- a send's, the stripe sent, back; -/
theorem rest_send : bigSep ((sched V).duties (sendCell a c j) 0 \ ∅) (fun d => (sched V).payload (sendCell a c j) 0 d) = some_ a j.1.castSucc j.2 c := by
  rw [Finset.sdiff_empty, duties_send, bigSep_singleton, payload_send]
omit [FloatOps F] in
/-- a receive's, the stripe received. -/
theorem rest_recv : bigSep ((sched V).duties (recvCell a c j) 0 \ ∅) (fun d => (sched V).payload (recvCell a c j) 0 d)
    = holds a j.1.succ j.2 c (V a (next (!a) c) j) := by
  rw [Finset.sdiff_empty, duties_recv, bigSep_singleton, payload_recv]

end Sched

/-! ## What a device owes, and in what order the semaphores are waited for -/

/-- The hops in the order in which a device sends: slot by slot, stripe by stripe. -/
abbrev idx (j : Hop) : ℕ := 4 * j.1.val + j.2.val
/-- Different copies have different numbers, -/
theorem idx_inj {j j' : Hop} (h : idx j = idx j') : j = j' := by
  have := j.2.isLt; have := j'.2.isLt
  exact Prod.ext (Fin.ext (by simp only [idx] at h; omega)) (Fin.ext (by simp only [idx] at h; omega))
/-- all below sixty. -/
theorem idx_lt (j : Hop) : idx j < 60 := by have := j.1.isLt; have := j.2.isLt; simp only [idx]; omega

/-- What is still owed in direction `a` after the first `k` sends: the credit of the others' receive cells. -/
def owedDir (a : Bool) (c : Dev nD) (k : ℕ) : CellTallies nD τ sig Unit :=
  ∑ j : Hop, if idx j < k then 0 else tallyAt (recvCell a (next a c) j) () N

/-- One send pays one of them. -/
theorem owedDir_step (a : Bool) (c : Dev nD) (j : Hop) :
    owedDir a c (idx j) = owedDir a c (idx j + 1) + tallyAt (recvCell a (next a c) j) () N := by
  unfold owedDir
  rw [← Finset.add_sum_erase Finset.univ (fun j' => if idx j' < idx j then 0 else tallyAt (recvCell a (next a c) j') () N) (Finset.mem_univ j),
    ← Finset.add_sum_erase Finset.univ (fun j' => if idx j' < idx j + 1 then 0 else tallyAt (recvCell a (next a c) j') () N) (Finset.mem_univ j),
    if_neg (Nat.lt_irrefl _), if_pos (Nat.lt_succ_self _), zero_add, add_comm]
  refine congrArg (fun X : CellTallies nD τ sig Unit => X + tallyAt (recvCell a (next a c) j) () N) (Finset.sum_congr rfl fun j' hj' => ?_)
  have hne : idx j' ≠ idx j := fun h => Finset.ne_of_mem_erase hj' (idx_inj h)
  by_cases h : idx j' < idx j
  · rw [if_pos h, if_pos (by omega)]
  · rw [if_neg h, if_neg (by omega)]

/-- After the last nothing is owed. -/
theorem owedDir_end (a : Bool) (c : Dev nD) : owedDir a c 60 = 0 :=
  Finset.sum_eq_zero fun j _ => if_pos (idx_lt j)

/-- What is owed after `k` sends is the credit of cells of later hops. -/
theorem owedDir_pos {a : Bool} {c : Dev nD} {k : ℕ} {g : GSem nD τ sig} {u : Unit} (h : 0 < owedDir a c k g u) :
    ∃ j : Hop, k ≤ idx j ∧ g = recvCell a (next a c) j := by
  unfold owedDir at h
  rw [Finset.sum_apply, Finsupp.finset_sum_apply] at h
  obtain ⟨j, -, hj⟩ := Finset.exists_ne_zero_of_sum_ne_zero (Nat.pos_iff_ne_zero.mp h)
  refine ⟨j, ?_, ?_⟩
  · by_contra hk
    rw [if_pos (by omega)] at hj
    exact hj rfl
  · by_contra hg
    apply hj
    by_cases hk : idx j < k
    · rw [if_pos hk]; rfl
    · rw [if_neg hk, tallyAt_apply, if_neg (fun h => hg h.1)]

/-- Both directions. -/
def owed (c : Dev nD) (k k' : ℕ) : CellTallies nD τ sig Unit := owedDir false c k + owedDir true c k'

/-- At launch: every transfer, and a unit to each neighbour's barrier. -/
def O₀ (c : Dev nD) : CellTallies nD τ sig Unit := (owed c 0 0 + tallyAt (barCell (next false c)) () 1) + tallyAt (barCell (next true c)) () 1

/-- The places the levels are stated at: the devices' own. -/
def L (g : GSem nD τ sig) : Finset Unit := if g.1.2 = .tc then {()} else ∅
/-- Only the tensor cores' semaphores have levels; -/
theorem L_of_ne (g : GSem nD τ sig) (h : g.1.2 ≠ .tc) : L g = ∅ := if_neg h
/-- there is one on each. -/
theorem L_tc (c : Dev nD) (sm : SemLoc sig) : L ((c : Thread nD τ), sm) = {()} := if_pos rfl

/-- The level of a cell's waits. -/
def lvOf : Option Cell → ℕ
  | some (.inl _) => 1
  | some (.inr (.inl _)) => 0
  | some (.inr (.inr (_, h, _))) => h.val + 1
  | none => 0
/-- The levels: the sends and the launch's own at 0, the barrier at 1, then the receives slot by slot. A device waits only
    for a semaphore below all it owes. -/
def lv (g : GSem nD τ sig) (_ : Unit) : ℕ := lvOf (dec g.2)
/-- The level of a cell, -/
theorem lv_kcell (c : Dev nD) (k : Cell) (u : Unit) : lv (kcell (c, k)) u = lvOf (some k) := by unfold lv; rw [dec_csem]
/-- of a receive cell -/
theorem lv_recv (a : Bool) (c : Dev nD) (j : Hop) (u : Unit) : lv (recvCell a c j) u = j.1.val + 2 := lv_kcell c _ u
/-- and of the barrier. -/
theorem lv_bar (c : Dev nD) (u : Unit) : lv (barCell c) u = 1 := lv_kcell c _ u

/-- All of `O` is owed at devices' cells above level `n`. -/
def Above (n : ℕ) (O : CellTallies nD τ sig Unit) : Prop := ∀ g u, 0 < O g u → () ∈ L g ∧ n < lv g u

/-- Nothing owed is above every level; -/
theorem above_zero (n : ℕ) : Above n 0 := fun _ _ h => absurd h (Nat.lt_irrefl 0)
/-- what is above a level in two parts is so together; -/
theorem Above.add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · exact h' g u (by omega)
  · exact h g u h0
/-- a barrier signal owed is above level 0. -/
theorem above_bar {n : ℕ} (hn : n < 1) (c : Dev nD) : Above n (tallyAt (barCell c) () 1) := fun g u hg => by
  rw [tallyAt_apply] at hg
  by_cases h : g = barCell c ∧ u = ()
  · rw [h.1, lv_bar, L_tc]; exact ⟨Finset.mem_singleton_self _, hn⟩
  · rw [if_neg h] at hg; exact absurd hg (Nat.lt_irrefl 0)
/-- After `k` sends, above the level of hop `n`'s receive if all the earlier slots' stripes are sent. -/
theorem above_owedDir {n k : ℕ} (hn : 4 * n ≤ k + 4) (a : Bool) (c : Dev nD) : Above n (owedDir a c k) := fun g u hg => by
  obtain ⟨j, hj, rfl⟩ := owedDir_pos hg
  rw [lv_recv, L_tc]
  have := j.2.isLt
  exact ⟨Finset.mem_singleton_self _, by simp only [idx] at hj; omega⟩

omit [FloatOps F] in
/-- A device may wait for a semaphore below all it owes. -/
theorem mayWait (c : Dev nD) (sm : SemLoc sig) {n : ℕ} (hsm : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact hsm)
    (fun g u hg => (hO g u hg).2)

end Cert.RingProof

end
-- ==== Proof.Steps.lean ====
/-
  What each group of operations of the body does to what a device holds: one lemma for the send of a stripe, one for its
  arrival, one for a hop, and so on, each for both directions, every slot and every stripe.
-/
module

public import proofs.«01_k».proof.Proof.Common

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop needs a bound. -/
abbrev 𝒱₀ : Variants := Variants.none

/-! ## Programs one after the other -/

/-- Device `c`, running `p`, ends with `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A part of a program run first, its result handed on. -/
theorem runs_bind (c : Dev nD) {α β : Type} {p : Prog (TpuEff nD τ sig (Elt F) Λ₀ .tc) α} {k : α → Prog (TpuEff nD τ sig (Elt F) Λ₀ .tc) β}
    {P : sProp 𝕄} {Q : α → sProp 𝕄} {R : β → sProp 𝕄} (h : P ⊢ runs c p Q) :
    P ⊢ iprop((∀ x, Q x -∗ runs c (k x) R) -∗ runs c (p.bind k) R) := by
  refine h.trans ?_
  rw [show runs c (p.bind k) R = runs c p (fun x => runs c (k x) R) from wp_bind frame _ Set.univ p k R]
  exact wp_wand frame _ Set.univ

/-- The same for a part that gives no result. -/
theorem runs_then (c : Dev nD) {β : Type} {p : Prog (TpuEff nD τ sig (Elt F) Λ₀ .tc) PUnit} {k : PUnit → Prog (TpuEff nD τ sig (Elt F) Λ₀ .tc) β}
    {P : sProp 𝕄} {Q : sProp 𝕄} {R : β → sProp 𝕄} (h : P ⊢ runs c p (fun _ => Q)) :
    P ⊢ iprop((Q -∗ runs c (k ⟨⟩) R) -∗ runs c (p.bind k) R) := by
  iintro HP HQ
  iapply (runs_bind c h) $$ HP
  iintro %x H
  cases x
  iapply HQ; iexact H

/-- A loop keeps what every turn of it keeps. -/
theorem runs_loop (c : Dev nD) {n : ℕ} (f : Fin n → Prog (TpuEff nD τ sig (Elt F) Λ₀ .tc) PUnit) (I : ℕ → sProp 𝕄)
    (h : ∀ i : Fin n, I i.val ⊢ runs c (f i) (fun _ => I (i.val + 1))) : I 0 ⊢ runs c (loop n f) (fun _ => I n) := by
  induction n generalizing I with
  | zero => exact le_wp_ret frame _ Set.univ PUnit.unit (fun _ => I 0)
  | succ n ih =>
    refine (h 0).trans ?_
    show _ ⊢ runs c ((f 0).bind fun _ => loop n fun i => f i.succ) _
    rw [show runs c ((f 0).bind fun _ => loop n fun i => f i.succ) (fun _ => I (n + 1))
      = runs c (f 0) (fun _ => runs c (loop n fun i => f i.succ) (fun _ => I (n + 1))) from wp_bind frame _ Set.univ _ _ _]
    exact wp_mono frame _ Set.univ fun _ => ih (fun i => f i.succ) (fun k => I (k + 1)) fun i => h i.succ

/-! ## A family worked through hop by hop -/

/-- For the first `k` hops `D`, for the others `P`. -/
def fam (P D : Hop → sProp 𝕄) (k : ℕ) : sProp 𝕄 := bigSep Finset.univ fun j => if idx j < k then D j else P j

omit [FloatOps F] in
/-- One of all. -/
theorem one_of {I : Type} [Fintype I] (Φ : I → sProp 𝕄) (i : I) : bigSep Finset.univ Φ ⊢ Φ i := by
  classical
  exact bigSep_elim (Finset.mem_univ i)

omit [FloatOps F] in
/-- The next copy's part taken out of the family, to be put back as done, -/
theorem fam_step (P D : Hop → sProp 𝕄) (j : Hop) : fam P D (idx j) ⊢ iprop(P j ∗ (D j -∗ fam P D (idx j + 1))) := by
  unfold fam
  refine (bigSep_univ_update (Φ := fun j' => if idx j' < idx j then D j' else P j') (Ψ := fun j' => if idx j' < idx j + 1 then D j' else P j') j ?_).trans ?_
  · intro j' hne
    have : idx j' ≠ idx j := fun h => hne (idx_inj h)
    by_cases h : idx j' < idx j
    · rw [if_pos h, if_pos (by omega)]
    · rw [if_neg h, if_neg (by omega)]
  · rw [if_neg (Nat.lt_irrefl _), if_pos (Nat.lt_succ_self _)]
omit [FloatOps F] in
/-- at first all are to do, -/
theorem fam_zero (P D : Hop → sProp 𝕄) : fam P D 0 = bigSep Finset.univ P :=
  bigSep_congr fun j _ => if_neg (Nat.not_lt_zero _)
omit [FloatOps F] in
/-- at last all are done. -/
theorem fam_end (P D : Hop → sProp 𝕄) : fam P D 60 = bigSep Finset.univ D :=
  bigSep_congr fun j _ => if_pos (idx_lt j)

/-! ## What a device holds of the protocol -/

section Protocol

variable (V : Bool → Dev nD → Hop → Vec F S1x32x1024 .bf16) (K : Dev nD × Cell → ℕ)

/-- Every semaphore's protocol, and that its round is open: known to all. -/
def records : sProp 𝕄 :=
  iprop((bigSep Finset.univ fun ck : Dev nD × Cell => cellInv ER (sched V) (K ck) (kcell ck))
    ∗ bigSep Finset.univ fun ck : Dev nD × Cell => reached ER (kcell ck) 0)
/-- The records can be used again and again: -/
instance records_persistent : BI.Persistent (records V K) := by unfold records; infer_instance

omit [FloatOps F] in
/-- every cell's invariant is among them, -/
theorem records_inv (ck : Dev nD × Cell) : records V K ⊢ cellInv ER (sched V) (K ck) (kcell ck) := by
  unfold records
  iintro ⟨H, -⟩
  iapply (one_of (fun ck : Dev nD × Cell => cellInv ER (sched V) (K ck) (kcell ck)) ck); iexact H
omit [FloatOps F] in
/-- and that its round has been reached. -/
theorem records_reached (ck : Dev nD × Cell) : records V K ⊢ reached ER (kcell ck) 0 := by
  unfold records
  iintro ⟨-, H⟩
  iapply (one_of (fun ck : Dev nD × Cell => reached ER (kcell ck) 0) ck); iexact H

variable (a : Bool) (c : Dev nD)

/-- Before a send: the place on the neighbour it goes to, and the right to signal there and here. -/
def sendP (j : Hop) : sProp 𝕄 :=
  iprop(some_ a j.1.succ j.2 (next a c) ∗ dutyTok ER (recvCell a (next a c) j) 0 false ∗ dutyTok ER (sendCell a c j) 0 false)
/-- After it: the claim to its completion. -/
def sendD (j : Hop) : sProp 𝕄 := cred (tallyAt (sendCell a c j) () N)
/-- Before a stripe's arrival: the claim to it. -/
def recvP (j : Hop) : sProp 𝕄 := iprop(atPos ER (recvCell a c j) 0 ∅ 0 ∗ cred (tallyAt (recvCell a c j) () N))
/-- After it and what is done with it: the semaphore back at zero, and the last slot's stripe, which goes no further. -/
def recvD (j : Hop) : sProp 𝕄 := iprop(semVal (recvCell a c j) 0 ∗ if j.1 = Fin.last 14 then some_ a j.1.succ j.2 c else iprop(emp))
/-- Before the wait for a send's completion; -/
def sentP (j : Hop) : sProp 𝕄 := iprop(sendD a c j ∗ atPos ER (sendCell a c j) 0 ∅ 0)
/-- after it, the stripe is the device's again. -/
def sentD (j : Hop) : sProp 𝕄 := iprop(semVal (sendCell a c j) 0 ∗ some_ a j.1.castSucc j.2 c)

/-- The device owes `O`, whatever it has waited for. -/
def owing (O : CellTallies nD τ sig Unit) : sProp 𝕄 := iprop(∃ W, owes (c : Thread nD τ) O W)

/-- Sending a stripe. -/
theorem runs_send (O : CellTallies nD τ sig Unit) (h : Fin 15) (s : Fin 4) :
    iprop(records V K ∗ fam (sendP a c) (sendD a c) (idx (h, s)) ∗ holds a h.castSucc s c (V a c (h, s)) ∗ owing c (O + owedDir a c (idx (h, s))))
      ⊢ runs c (sendOp (bufM a) (bufM_whole a) (sendA a) (recvA a) (next a c) h s)
          (fun _ => iprop(fam (sendP a c) (sendD a c) (idx (h, s) + 1) ∗ owing c (O + owedDir a c (idx (h, s) + 1)))) := by
  unfold holds owing sendOp
  iintro ⟨#HR, Hf, ⟨%f, %hf, Hsrc⟩, ⟨%W, HO⟩⟩
  ihave Hf' := (fam_step _ _ (h, s)) $$ Hf
  icases Hf' with ⟨Hp, Hback⟩
  unfold sendP some_
  icases Hp with ⟨⟨%fd, Hdst⟩, HtR, HtS⟩
  unfold stripePts
  have d₁ : false ∈ (sched V).duties (sendCell a c (h, s)) 0 := by rw [duties_send]; exact Finset.mem_singleton_self _
  have d₂ : false ∈ (sched V).duties (recvCell a (next a c) (h, s)) 0 := by rw [duties_recv]; exact Finset.mem_singleton_self _
  have p₁ : ((stripeV (bufM a) h.castSucc s).view.loc (c : Thread nD τ) ↦[(stripeV (bufM a) h.castSucc s).view.set]{fullShare} f : sProp 𝕄)
      ⊢ (sched V).payload (sendCell a c (h, s)) 0 false := by
    rw [payload_send]; unfold some_ stripePts
    iintro H; iexists f; iexact H
  have p₂ : ((stripeV (bufM a) h.succ s).view.loc (next a c : Thread nD τ) ↦[(stripeV (bufM a) h.succ s).view.set]{fullShare}
        ((stripeV (bufM a) h.succ s).view.write (Elt F) fd ((stripeV (bufM a) h.castSucc s).view.read (Elt F) f) Finset.univ) : sProp 𝕄)
      ⊢ (sched V).payload (recvCell a (next a c) (h, s)) 0 false := by
    rw [payload_recv, next_next']; unfold holds stripePts
    iintro H; iexists _
    isplitr
    · ipureintro; exact (stripeRd_landed a h.castSucc s h.succ fd f).trans hf
    iexact H
  iapply (Rounds.wp_send_pointsTo 𝒱₀ ER (sched V) (c : Thread nD τ) none (κ₁ := K (c, .inr (.inl (a, (h, s))))) (κ₂ := K (next a c, .inr (.inr (a, h.succ, s))))
    (c' := (next a c : Thread nD τ)) (src := stripeV (bufM a) h.castSucc s) (dst := stripeV (bufM a) h.succ s)
    d₁ d₂ () () N (credit_eq a h.succ s) (amount_send V a c (h, s) false) (amount_recv V a (next a c) (h, s) false)
    (O₀ := O + owedDir a c (idx (h, s))) (O + owedDir a c (idx (h, s) + 1)) ((congrArg (O + ·) (owedDir_step a c (h, s))).trans (add_assoc _ _ _).symm) (W := W) p₁ p₂) $$ [Hsrc Hdst HO HtR HtS]
  · isplitr; · iapply (records_inv V K (c, .inr (.inl (a, (h, s))))); iexact HR
    isplitr; · iapply (records_inv V K (next a c, .inr (.inr (a, h.succ, s)))); iexact HR
    isplitl [Hsrc]; · iexact Hsrc
    isplitl [Hdst]; · iexact Hdst
    isplitl [HO]; · iexact HO
    isplitl [HtS]; · iexact HtS
    isplitr; · iapply (records_reached V K (c, .inr (.inl (a, (h, s))))); iexact HR
    isplitl [HtR]; · iexact HtR
    iapply (records_reached V K (next a c, .inr (.inr (a, h.succ, s)))); iexact HR
  iintro ⟨Hc, HO⟩
  rw [wp_ret]; imodintro
  isplitl [Hc Hback]
  · iapply Hback; unfold sendD; iexact Hc
  iexists W; iexact HO

omit [FloatOps F] in
/-- A semaphore whose round is over is its device's again, at zero. -/
theorem close (ck : Dev nD × Cell) (R : ℕ) (hR : ∀ r, R ≤ r → (sched V).duties (kcell ck) r = ∅) :
    iprop(records V K ∗ atPos ER (kcell ck) R ∅ 0) ⊢ |={Set.univ}=> semVal (kcell ck) 0 := by
  iintro ⟨HR, Hat⟩
  iapply (Rounds.cell_close ER (sched V) (Set.mem_univ (K ck)) (fun h => h) (R := R) hR)
  isplitl [HR]; · iapply (records_inv V K ck); iexact HR
  iexact Hat

/-- A stripe's arrival: it holds what it was sent with. -/
theorem runs_recv (O : CellTallies nD τ sig Unit) (h : Fin 15) (s : Fin 4) (hO : Above (h.val + 2) O) :
    iprop(records V K ∗ levAts L lv ∗ recvP a c (h, s) ∗ owing c O)
      ⊢ runs c (recvOp (bufM a) (bufM_whole a) (recvA a) h.succ s)
          (fun _ => iprop(semVal (recvCell a c (h, s)) 0 ∗ holds a h.succ s c (V a (next (!a) c) (h, s)) ∗ owing c O)) := by
  unfold recvP owing recvOp
  iintro ⟨#HR, #Hlev, ⟨Hat, Hc⟩, ⟨%W, HO⟩⟩
  have hN : 0 + (stripeV (bufM a) h.succ s).view.dmaCredit = (sched V).expect (recvCell a c (h, s)) 0 := by
    rw [Nat.zero_add, expect_recv, credit_eq]
  iapply (Rounds.wp_wait_rest_token 𝒱₀ ER (sched V) (c : Thread nD τ) none (κ := K (c, .inr (.inr (a, h.succ, s))))
      (wpE_waitDma2_eq 𝒱₀ (c : Thread nD τ) none Set.univ) (Set.mem_univ _) () (O := O) (W := W) (R := 0) (m := 0) (T := ∅) hN) $$ [Hc HO Hat]
  · isplitr; · iapply (records_inv V K (c, .inr (.inr (a, h.succ, s)))); iexact HR
    isplitl [Hc]; · rw [credit_eq]; iexact Hc
    isplitl [HO]; · iexact HO
    isplitr
    · iapply (mayWait c _ (n := h.val + 2) (le_of_eq (lv_recv a c (h, s) ())) hO); iexact Hlev
    iexact Hat
  iintro ⟨HO, Hat, -, Hpay⟩
  imod (close V K (c, .inr (.inr (a, h.succ, s))) (0 + 1) (duties_later V _)) $$ [Hat] with Hz
  · isplitr; · iexact HR
    iexact Hat
  rw [wp_ret]; imodintro
  isplitl [Hz]; · iexact Hz
  isplitl [Hpay]
  · iapply (Entails.of_eq (rest_recv V a c (h, s))); iexact Hpay
  iexists (insert (SemLoc.dma (recvSem (recvA a) h.succ s).sem, ()) W); iexact HO

/-- The wait for a send's completion: the stripe is the device's again. -/
theorem runs_sent (h : Fin 15) (s : Fin 4) :
    iprop(records V K ∗ fam (sentP a c) (sentD a c) (idx (h, s)) ∗ owing c 0)
      ⊢ runs c (sentOp (bufM a) (bufM_whole a) (sendA a) h s) (fun _ => iprop(fam (sentP a c) (sentD a c) (idx (h, s) + 1) ∗ owing c 0)) := by
  unfold owing sentOp
  iintro ⟨#HR, Hf, ⟨%W, HO⟩⟩
  ihave Hf' := (fam_step _ _ (h, s)) $$ Hf
  icases Hf' with ⟨Hp, Hback⟩
  unfold sentP sendD
  icases Hp with ⟨Hc, Hat⟩
  have hN : 0 + (stripeV (bufM a) h.castSucc s).view.dmaCredit = (sched V).expect (sendCell a c (h, s)) 0 := by
    rw [Nat.zero_add, expect_send, credit_eq]
  iapply (Rounds.wp_wait_rest_token 𝒱₀ ER (sched V) (c : Thread nD τ) none (κ := K (c, .inr (.inl (a, (h, s)))))
      (wpE_waitDma2_eq 𝒱₀ (c : Thread nD τ) none Set.univ) (Set.mem_univ _) () (O := 0) (W := W) (R := 0) (m := 0) (T := ∅) hN) $$ [Hc HO Hat]
  · isplitr; · iapply (records_inv V K (c, .inr (.inl (a, (h, s))))); iexact HR
    isplitl [Hc]; · rw [credit_eq]; iexact Hc
    isplitl [HO]; · iexact HO
    isplitr; · rw [MayWait_zero]; iempintro
    iexact Hat
  iintro ⟨HO, Hat, -, Hpay⟩
  imod (close V K (c, .inr (.inl (a, (h, s)))) (0 + 1) (duties_later V _)) $$ [Hat] with Hz
  · isplitr; · iexact HR
    iexact Hat
  rw [wp_ret]; imodintro
  isplitl [Hz Hpay Hback]
  · iapply Hback; unfold sentD
    isplitl [Hz]; · iexact Hz
    iapply (Entails.of_eq (rest_send V a c (h, s))); iexact Hpay
  iexists (insert (SemLoc.dma (sendSem (sendA a) h s).sem, ()) W); iexact HO

omit V K in
/-- A load of a stripe gives what it holds. -/
theorem runs_load (h : Fin 16) (s : Fin 4) (v : Vec F S1x32x1024 .bf16) :
    holds a h s c v ⊢ runs c (loadOp (bufM a) h s) (fun x => iprop(⌜x = v⌝ ∗ holds a h s c v)) := by
  unfold holds stripePts loadOp
  iintro ⟨%f, %hf, H⟩
  iapply (wp_load_rect 𝒱₀ (c : Thread nD τ) none Set.univ (m := bufM a) (r := stripe h s) (f := f)
    (S := (stripeV (bufM a) h s).view.set) (stripe_set a h s).ge) $$ H
  iintro H
  rw [wp_ret]; imodintro
  isplitr; · ipureintro; exact hf
  iexists f
  isplitr; · ipureintro; exact hf
  iexact H

omit V K in
/-- A store to a stripe: it holds what was stored. -/
theorem runs_store (h : Fin 16) (s : Fin 4) (v : Vec F S1x32x1024 .bf16) :
    some_ a h s c ⊢ runs c (storeOp (bufM a) (bufM_whole a) h s v) (fun _ => holds a h s c v) := by
  unfold holds some_ stripePts storeOp
  iintro ⟨%f, H⟩
  iapply (wp_store 𝒱₀ (c : Thread nD τ) none Set.univ (m := bufM a) (r := stripe h s) (Mk := Finset.univ) (f := f)
    (S := (stripeV (bufM a) h s).view.set) (stripe_set a h s).ge) $$ H
  iintro H
  rw [wp_ret]; imodintro
  iexists _
  isplitr; · ipureintro; exact stripeRd_stored a h s f v
  iexact H

/-! ## The device's own buffers: its blocks of `x` and `w`, its partial product, its block of the result -/

/-- The block of `x` that the kernel reads, -/
abbrev xM : Memref sig .tc .vmem S2048x128 .f32 := Memref.whole cc0_stg0_0
/-- of `w`, -/
abbrev wM : Memref sig .tc .vmem S128x2048 .f32 := Memref.whole cc0_stg1_0
/-- the block of the result -/
abbrev oM : Memref sig .tc .vmem S128x2048 .f32 := Memref.whole cc0_stg2_0
/-- and the partial product. -/
abbrev pM : Memref sig .tc .vmem S2048x2048 .f32 := Memref.whole cc0_scratch2

/-- All of a buffer, at contents `f`. -/
abbrev pts (b : Ref sig .tc) (f : Buf (Elt F) ((c : Thread nD τ).loc b)) : sProp 𝕄 := (c : Thread nD τ).loc b ↦{fullShare} f

/-- 32 rows of the block of `x`; -/
abbrev rdX (off : Fin 2 → Nat) (ho : ∀ i, off i + S32x128.size i ≤ S2048x128.size i) (f : xM.view.ty.Contents (Elt F)) : Vec F S32x128 .f32 :=
  (xM.access (Rect.unit (s := S2048x128) off S32x128.size ho) : View sig .tc _ _ _).read (Elt F) f
/-- half the columns of the block of `w`; -/
abbrev rdW (lo : Fin 2) (f : wM.view.ty.Contents (Elt F)) : Vec F S128x1024 .f32 := (wM.access (wR lo) : View sig .tc _ _ _).read (Elt F) f
/-- 32 rows and half the columns of the partial product. -/
abbrev rdP (off : Fin 2 → Nat) (ho : ∀ i, off i + S32x1024.size i ≤ S2048x2048.size i) (f : pM.view.ty.Contents (Elt F)) : Vec F S32x1024 .f32 :=
  (pM.access (Rect.unit (s := S2048x2048) off S32x1024.size ho) : View sig .tc _ _ _).read (Elt F) f

omit V K in
/-- The first stripe products, into slot 0. -/
theorem runs_first (lo : Fin 2) (off : Fin 2 → Nat) (ho) (s : Fin 4) (fx : Buf (Elt F) ((c : Thread nD τ).loc cc0_stg0_0)) (fw : Buf (Elt F) ((c : Thread nD τ).loc cc0_stg1_0)) :
    iprop(some_ a 0 s c ∗ pts c cc0_stg0_0 fx ∗ pts c cc0_stg1_0 fw)
      ⊢ runs c (firstOp (bufM a) (bufM_whole a) xM wM lo off ho s)
          (fun _ => iprop(holds a 0 s c (k0_pay1 (rdX off ho fx) (rdW lo fw)) ∗ pts c cc0_stg0_0 fx ∗ pts c cc0_stg1_0 fw)) := by
  unfold firstOp
  iintro ⟨Hs, Hx, Hw⟩
  iapply (wp_load_rect 𝒱₀ (c : Thread nD τ) none Set.univ (m := xM) (r := Rect.unit (s := S2048x128) off S32x128.size ho) (Finset.subset_univ _)) $$ Hx
  iintro Hx
  iapply (wp_load_rect 𝒱₀ (c : Thread nD τ) none Set.univ (m := wM) (r := wR lo) (Finset.subset_univ _)) $$ Hw
  iintro Hw
  ihave Hs' := (some_holds a 0 s c) $$ Hs
  icases Hs' with ⟨%v, Hs⟩
  iapply (runs_bind c (runs_load a c 0 s v)) $$ Hs
  iintro %_ ⟨-, Hs⟩
  ihave Hs := (holds_some a 0 s c v) $$ Hs
  ihave Hr := (runs_store a c 0 s (k0_pay1 (rdX off ho fx) (rdW lo fw))) $$ Hs
  iapply (wp_wand frame _ Set.univ) $$ Hr
  iintro %_ H
  isplitl [H]; · iexact H
  isplitl [Hx] <;> iassumption

/-- One hop of a stripe: it arrives, the device's part is added, it goes on. -/
theorem runs_hop (O : CellTallies nD τ sig Unit) (h : Fin 14) (s : Fin 4) (hO : Above (h.val + 2) O)
    (off : Fin 2 → Nat) (ho) (fp : Buf (Elt F) ((c : Thread nD τ).loc cc0_scratch2))
    (hV : k0_pay11 (V a (next (!a) c) (h.castSucc, s)) (rdP off ho fp) = V a c (h.succ, s)) :
    iprop(records V K ∗ levAts L lv ∗ fam (recvP a c) (recvD a c) (idx (h.castSucc, s)) ∗ fam (sendP a c) (sendD a c) (idx (h.succ, s))
        ∗ pts c cc0_scratch2 fp ∗ owing c (O + owedDir a c (idx (h.succ, s))))
      ⊢ runs c (hopOp (bufM a) (bufM_whole a) (sendA a) (recvA a) (next a c) pM h s off ho)
          (fun _ => iprop(fam (recvP a c) (recvD a c) (idx (h.castSucc, s) + 1) ∗ fam (sendP a c) (sendD a c) (idx (h.succ, s) + 1)
            ∗ pts c cc0_scratch2 fp ∗ owing c (O + owedDir a c (idx (h.succ, s) + 1)))) := by
  unfold hopOp
  iintro ⟨#HR, #Hlev, Hrf, Hsf, Hp, HO⟩
  ihave Hf := (fam_step _ _ (h.castSucc, s)) $$ Hrf
  icases Hf with ⟨Hr, Hback⟩
  have hO' : Above (h.castSucc.val + 2) (O + owedDir a c (idx (h.succ, s))) :=
    Above.add hO (above_owedDir (by simp only [idx, Fin.val_succ, Fin.val_castSucc]; omega) a c)
  iapply (runs_then c (runs_recv V K a c _ h.castSucc s hO')) $$ [Hr HO]
  · isplitr; · iexact HR
    isplitr; · iexact Hlev
    isplitl [Hr] <;> iassumption
  iintro ⟨Hz, Hs, HO⟩
  ihave Hd := Hback $$ [Hz]
  · unfold recvD
    isplitl; · iexact Hz
    rw [if_neg (fun e => absurd (congrArg Fin.val e) (by simp only [Fin.val_castSucc, Fin.val_last]; omega))]
    iempintro
  iapply (runs_bind c (runs_load a c h.succ.castSucc s (V a (next (!a) c) (h.castSucc, s)))) $$ [Hs]
  · iexact Hs
  iintro %v ⟨%hv, Hs⟩
  subst hv
  iapply (wp_load_rect 𝒱₀ (c : Thread nD τ) none Set.univ (m := pM) (r := Rect.unit (s := S2048x2048) off S32x1024.size ho) (Finset.subset_univ _)) $$ Hp
  iintro Hp
  iapply (runs_bind c (runs_load a c h.succ.castSucc s (V a (next (!a) c) (h.castSucc, s)))) $$ [Hs]
  · iexact Hs
  iintro %_ ⟨-, Hs⟩
  ihave Hs := (holds_some a h.succ.castSucc s c _) $$ Hs
  iapply (runs_then c (runs_store a c h.succ.castSucc s (k0_pay11 (V a (next (!a) c) (h.castSucc, s)) (rdP off ho fp)))) $$ Hs
  iintro Hs
  ihave Hr := (runs_send V K a c O h.succ s) $$ [Hsf Hs HO]
  · isplitr; · iexact HR
    isplitl [Hsf]; · iexact Hsf
    isplitl [Hs]; · rw [← hV]; iexact Hs
    iexact HO
  iapply (wp_wand frame _ Set.univ) $$ Hr
  iintro %_ ⟨Hsf, HO⟩
  isplitl [Hd]; · iexact Hd
  isplitl [Hsf]; · iexact Hsf
  isplitl [Hp] <;> iassumption

/-- The last hop of a stripe: it arrives, the device's part is added, and what is positive of the sum goes into the result. -/
theorem runs_last (O : CellTallies nD τ sig Unit) (lo : Fin 2) (s : Fin 4) (hO : Above 16 O)
    (off : Fin 2 → Nat) (ho) (fp : Buf (Elt F) ((c : Thread nD τ).loc cc0_scratch2)) (fo : Buf (Elt F) ((c : Thread nD τ).loc cc0_stg2_0)) :
    iprop(records V K ∗ levAts L lv ∗ fam (recvP a c) (recvD a c) (idx (Fin.last 14, s)) ∗ pts c cc0_scratch2 fp ∗ pts c cc0_stg2_0 fo ∗ owing c O)
      ⊢ runs c (lastOp (bufM a) (bufM_whole a) (recvA a) pM oM lo s off ho)
          (fun _ => iprop(fam (recvP a c) (recvD a c) (idx (Fin.last 14, s) + 1) ∗ pts c cc0_scratch2 fp
            ∗ pts c cc0_stg2_0 ((oM.access (outR s lo) : View sig .tc _ _ _).write (Elt F) fo (k0_pay140 (V a (next (!a) c) (Fin.last 14, s)) (rdP off ho fp)) Finset.univ)
            ∗ owing c O)) := by
  unfold lastOp
  iintro ⟨#HR, #Hlev, Hrf, Hp, Hout, HO⟩
  ihave Hf := (fam_step _ _ (Fin.last 14, s)) $$ Hrf
  icases Hf with ⟨Hr, Hback⟩
  iapply (runs_then c (runs_recv V K a c O (Fin.last 14) s hO)) $$ [Hr HO]
  · isplitr; · iexact HR
    isplitr; · iexact Hlev
    isplitl [Hr] <;> iassumption
  iintro ⟨Hz, Hs, HO⟩
  iapply (runs_bind c (runs_load a c 15 s (V a (next (!a) c) (Fin.last 14, s)))) $$ [Hs]
  · iexact Hs
  iintro %v ⟨%hv, Hs⟩
  subst hv
  iapply (wp_load_rect 𝒱₀ (c : Thread nD τ) none Set.univ (m := pM) (r := Rect.unit (s := S2048x2048) off S32x1024.size ho) (Finset.subset_univ _)) $$ Hp
  iintro Hp
  iapply (wp_load_rect 𝒱₀ (c : Thread nD τ) none Set.univ (m := oM) (r := outR s lo) (Finset.subset_univ _)) $$ Hout
  iintro Hout
  iapply (wp_store 𝒱₀ (c : Thread nD τ) none Set.univ (m := oM) (r := outR s lo) (Mk := Finset.univ) (Finset.subset_univ _)) $$ Hout
  iintro Hout
  rw [wp_ret]; imodintro
  isplitl [Hback Hz Hs]
  · iapply Hback; unfold recvD
    isplitl [Hz]; · iexact Hz
    rw [if_pos rfl]
    iapply (holds_some a 15 s c _); iexact Hs
  isplitl [Hp]; · iexact Hp
  isplitl [Hout] <;> iassumption

end Protocol

end Cert.RingProof

end
-- ==== Proof.Values.lean ====
/-
  What the stripes hold: each device's first product, then hop by hop the sum that travels around the ring, and the result
  every device ends with.
-/
module

public import proofs.«01_k».proof.Proof.Steps

@[expose] public section

noncomputable section

namespace Cert.RingProof

open Cert.KernelIdeal Cert.KernelIdeal.Gen
open Idealize.ShloMosaic
open Idealize.ShloMosaic.TcCoe

variable {F : FTy → Type} [FloatOps F]

section Values

/- The devices' blocks of `x` and of `w`. -/
variable (X : Dev nD → Vec F S2048x128 .f32) (W : Dev nD → Vec F S128x2048 .f32)

/-- A device's partial product: its columns of `x` with its rows of `w`. -/
def prod (c : Dev nD) : Vec F S2048x2048 .f32 := k0_pay10 (X c) (W c)

/-- The first stripe sum of a direction: of the rows that the neighbour it goes to does not want yet. -/
def firstV : Bool → Dev nD → Fin 4 → Vec F S1x32x1024 .bf16
  | false, c, s => k0_pay1 (rdX (k0_off1 c (BitVec.ofNat 32 (32 * s.val))) (k0_off1_inb c s) (X c)) (rdW 0 (W c))
  | true, c, s => k0_pay1 (rdX (k0_off2 c (BitVec.ofNat 32 (32 * s.val))) (k0_off2_inb c s) (X c)) (rdW 1 (W c))

/-- The part of a partial product that is added at hop `h`, -/
def partV : Bool → Dev nD → Fin 14 → Fin 4 → Vec F S2048x2048 .f32 → Vec F S32x1024 .f32
  | false, c, h, s, P => rdP (k0_off3 c (BitVec.ofNat 32 (1 + h.val)) (BitVec.ofNat 32 (32 * s.val))) (k0_off3_inb c h s) P
  | true, c, h, s, P => rdP (k0_off4 c (BitVec.ofNat 32 (1 + h.val)) (BitVec.ofNat 32 (32 * s.val))) (k0_off4_inb c h s) P
/-- and at the last. -/
def lastP : Bool → Dev nD → Fin 4 → Vec F S2048x2048 .f32 → Vec F S32x1024 .f32
  | false, c, s, P => rdP (k0_off5 c (BitVec.ofNat 32 (32 * s.val))) (k0_off5_inb c s) P
  | true, c, s, P => rdP (k0_off6 c (BitVec.ofNat 32 (32 * s.val))) (k0_off6_inb c s) P

/-- What device `c` sends of stripe `s` after `n` hops: what it got, and its own part. -/
def val (a : Bool) : ℕ → Dev nD → Fin 4 → Vec F S1x32x1024 .bf16
  | 0, c, s => firstV X W a c s
  | n + 1, c, s => k0_pay11 (val a n (next (!a) c) s) (partV a c (Fin.ofNat 14 n) s (prod X W c))

/-- The same, by hop. -/
def sentV (a : Bool) (c : Dev nD) (j : Hop) : Vec F S1x32x1024 .bf16 := val X W a j.1.val c j.2

/-- At the first hop it is the first stripe sum, -/
theorem sentV_zero (a : Bool) (c : Dev nD) (s : Fin 4) : sentV X W a c (0, s) = firstV X W a c s := rfl
/-- at each later one what arrived with the device's own part added. -/
theorem sentV_succ (a : Bool) (c : Dev nD) (h : Fin 14) (s : Fin 4) :
    k0_pay11 (sentV X W a (next (!a) c) (h.castSucc, s)) (partV a c h s (prod X W c)) = sentV X W a c (h.succ, s) := by
  have e : Fin.ofNat 14 h.val = h := Fin.ext (Nat.mod_eq_of_lt h.isLt)
  show _ = k0_pay11 (val X W a h.val (next (!a) c) s) (partV a c (Fin.ofNat 14 h.val) s (prod X W c))
  rw [e]; rfl

/-- The stripe of the result that direction `a` ends with. -/
def lastV (a : Bool) (c : Dev nD) (s : Fin 4) : Vec F S32x1024 .f32 :=
  k0_pay140 (sentV X W a (next (!a) c) (Fin.last 14, s)) (lastP a c s (prod X W c))

/-- The half of the columns that a direction carries. -/
def half (a : Bool) : Fin 2 := if a then 1 else 0

/-- Where an element of the result is within its stripe. -/
def inStripe (i : S128x2048.Idx) : S32x1024.Idx :=
  fun k => match k with
    | ⟨0, _⟩ => ⟨(i (0 : Fin 2)).val % 32, Nat.mod_lt _ (by decide)⟩
    | ⟨1, _⟩ => ⟨(i (1 : Fin 2)).val % 1024, Nat.mod_lt _ (by decide)⟩

/-- A device's block of the result: rows 0–31, 32–63, … stripe by stripe, the left half of the columns from the one
    direction, the right half from the other. -/
def outV (c : Dev nD) : Vec F S128x2048 .f32 := fun i =>
  lastV X W (decide (1024 ≤ (i (1 : Fin 2)).val)) c ⟨(i (0 : Fin 2)).val / 32 % 4, Nat.mod_lt _ (by decide)⟩ (inStripe i)

/-- A store of one stripe: at the stripe the result is there, elsewhere nothing changes. -/
theorem store_out (a : Bool) (c : Dev nD) (s : Fin 4) (fo : oM.view.ty.Contents (Elt F)) (i : S128x2048.Idx) :
    (oM.access (outR s (half a)) : View sig .tc _ _ _).write (Elt F) fo (lastV X W a c s) Finset.univ i
      = if (i (0 : Fin 2)).val / 32 = s.val ∧ (decide (1024 ≤ (i (1 : Fin 2)).val)) = a then outV X W c i else fo i := by
  have h0 : (i (0 : Fin 2)).val < 128 := (i (0 : Fin 2)).isLt
  have h1 : (i (1 : Fin 2)).val < 2048 := (i (1 : Fin 2)).isLt
  by_cases h : (i (0 : Fin 2)).val / 32 = s.val ∧ (decide (1024 ≤ (i (1 : Fin 2)).val)) = a
  · rw [if_pos h]
    obtain ⟨hs, ha⟩ := h
    have he : (oM.access (outR s (half a)) : View sig .tc _ _ _).emb (inStripe i) = i := by
      refine Rect.emb_eq_of_coords (outR s (half a)) (inStripe i) i ?_
      subst ha
      intro k
      match k with
      | ⟨0, _⟩ =>
        show (i (0 : Fin 2)).val = 32 * s.val + 1 * ((i (0 : Fin 2)).val % 32)
        omega
      | ⟨1, _⟩ =>
        show (i (1 : Fin 2)).val = 1024 * (half (decide (1024 ≤ (i (1 : Fin 2)).val))).val + 1 * ((i (1 : Fin 2)).val % 1024)
        by_cases hh : 1024 ≤ (i (1 : Fin 2)).val
        · rw [decide_eq_true hh]; show _ = 1024 * 1 + _; omega
        · rw [decide_eq_false hh]; show _ = 1024 * 0 + _; omega
    have hw := View.write_emb_of_mem (v := (oM.access (outR s (half a)) : View sig .tc _ _ _)) (Val := Elt F) fo (lastV X W a c s) (M := Finset.univ) (x := inStripe i) (Finset.mem_univ _)
    rw [he] at hw
    refine hw.trans ?_
    have e : (⟨(i (0 : Fin 2)).val / 32 % 4, Nat.mod_lt _ (by decide)⟩ : Fin 4) = s := Fin.ext (by have := s.isLt; show _ % 4 = _; omega)
    show lastV X W a c s (inStripe i) = lastV X W (decide (1024 ≤ (i (1 : Fin 2)).val)) c ⟨(i (0 : Fin 2)).val / 32 % 4, _⟩ (inStripe i)
    rw [ha, e]
  · rw [if_neg h]
    refine View.write_of_not_mem _ _ _ ?_
    intro hm
    apply h
    rw [View.setOn_univ, View.set_slice_whole] at hm
    obtain ⟨j, hj, e0⟩ := (outR s (half a)).mem_set.mp hm (0 : Fin 2)
    obtain ⟨j', hj', e1⟩ := (outR s (half a)).mem_set.mp hm (1 : Fin 2)
    have e0' : (i (0 : Fin 2)).val = 32 * s.val + 1 * j := e0
    have e1' : (i (1 : Fin 2)).val = 1024 * (half a).val + 1 * j' := e1
    have hj32 : j < 32 := hj
    have hj1024 : j' < 1024 := hj'
    refine ⟨by omega, ?_⟩
    cases a
    · exact decide_eq_false (by have : (half false).val = 0 := rfl; omega)
    · exact decide_eq_true (by have : (half true).val = 1 := rfl; omega)

end Values

end Cert.RingProof

end
-- ==== Proof.Body.lean ====
/-
  The whole body on one device: from what the launch gives it, phase by phase, to its block of the result.
-/
module

public import proofs.«01_k».proof.Proof.Values

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A buffer as its stripes -/

/-- A stripe of slot 0, or of the slot a hop fills. -/
def slotE : (Fin 4) ⊕ Hop ≃ Fin 16 × Fin 4 :=
  Equiv.ofBijective (fun x => match x with | .inl s => (0, s) | .inr j => (j.1.succ, j.2)) (by decide +kernel)
/-- A stripe of the slot a hop leaves, or of the last slot. -/
def slotE' : Hop ⊕ (Fin 4) ≃ Fin 16 × Fin 4 :=
  Equiv.ofBijective (fun x => match x with | .inl j => (j.1.castSucc, j.2) | .inr s => (15, s)) (by decide +kernel)

/-- Over all stripes: over slot 0's and over the hops' targets; -/
theorem bigSep_slots {M : Type} [URA M] (Φ : Fin 16 × Fin 4 → sProp M) :
    bigSep Finset.univ Φ = iprop((bigSep Finset.univ fun s : Fin 4 => Φ (0, s)) ∗ bigSep Finset.univ fun j : Hop => Φ (j.1.succ, j.2)) := by
  rw [bigSep_univ_equiv slotE Φ, bigSep_univ_sum]; rfl
/-- over the hops' sources and over the last slot's. -/
theorem bigSep_slots' {M : Type} [URA M] (Φ : Fin 16 × Fin 4 → sProp M) :
    bigSep Finset.univ Φ = iprop((bigSep Finset.univ fun j : Hop => Φ (j.1.castSucc, j.2)) ∗ bigSep Finset.univ fun s : Fin 4 => Φ (15, s)) := by
  rw [bigSep_univ_equiv slotE' Φ, bigSep_univ_sum]; rfl

/-- An element lies in stripe `s` of slot `h` when its first coordinate is `h` and its row is one of the stripe's 32. -/
theorem mem_stripe (h : Fin 16) (s : Fin 4) (i : S16x128x1024.Idx) :
    i ∈ (stripe h s).set ↔ (i (0 : Fin 3)).val = h.val ∧ (i (1 : Fin 3)).val / 32 = s.val := by
  have hi : (i (2 : Fin 3)).val < 1024 := (i (2 : Fin 3)).isLt
  rw [LoadRect.mem_set]
  constructor
  · intro hm
    obtain ⟨j, hj, e⟩ := hm (0 : Fin 3)
    obtain ⟨j', hj', e'⟩ := hm (1 : Fin 3)
    have e : (i (0 : Fin 3)).val = h.val + 1 * j := e
    have e' : (i (1 : Fin 3)).val = 32 * s.val + 1 * j' := e'
    have hj : j < 1 := hj
    have hj' : j' < 32 := hj'
    omega
  · rintro ⟨h0, h1⟩ k
    match k with
    | ⟨0, _⟩ => exact ⟨0, Nat.one_pos, (show (i (0 : Fin 3)).val = h.val + 1 * 0 by omega)⟩
    | ⟨1, _⟩ => exact ⟨(i (1 : Fin 3)).val % 32, Nat.mod_lt _ (by decide), (show (i (1 : Fin 3)).val = 32 * s.val + 1 * ((i (1 : Fin 3)).val % 32) by omega)⟩
    | ⟨2, _⟩ => exact ⟨(i (2 : Fin 3)).val, hi, (show (i (2 : Fin 3)).val = 0 + 1 * (i (2 : Fin 3)).val by omega)⟩

/-- The elements of a stripe, in its device's buffer. -/
def stripeAt (a : Bool) (c : Dev nD) (x : Fin 16 × Fin 4) : Finset (Idx ((bufM a).view.loc (c : Thread nD τ))) := (stripeV (bufM a) x.1 x.2).view.set
/-- A stripe's elements, as places of the whole buffer. -/
theorem stripeAt_eq (a : Bool) (c : Dev nD) (x : Fin 16 × Fin 4) : stripeAt a c x = (stripe x.1 x.2).set.map (bufM a).view.emb :=
  (stripe_set a x.1 x.2).trans (View.set_slice _ _)
/-- Different stripes share no element, -/
theorem stripeAt_disjoint (a : Bool) (c : Dev nD) : ∀ x y, x ≠ y → Disjoint (stripeAt a c x) (stripeAt a c y) := by
  intro x y hne
  rw [stripeAt_eq, stripeAt_eq, Finset.disjoint_map, Finset.disjoint_left]
  intro i hi hi'
  rw [mem_stripe] at hi hi'
  exact hne (Prod.ext (Fin.ext (by omega)) (Fin.ext (by omega)))
/-- and together they are the buffer. -/
theorem stripeAt_cover (a : Bool) (c : Dev nD) : Finset.univ.biUnion (stripeAt a c) = Finset.univ := by
  refine Finset.eq_univ_iff_forall.mpr fun i => Finset.mem_biUnion.mpr ?_
  have key : ∀ i : S16x128x1024.Idx, ∃ x : Fin 16 × Fin 4, i ∈ (stripe x.1 x.2).set := fun i =>
    ⟨(i (0 : Fin 3), ⟨(i (1 : Fin 3)).val / 32, by have : (i (1 : Fin 3)).val < 128 := (i (1 : Fin 3)).isLt; omega⟩), (mem_stripe _ _ i).mpr ⟨rfl, rfl⟩⟩
  cases a
  · obtain ⟨x, hx⟩ := key i
    exact ⟨x, Finset.mem_univ _, by rw [stripeAt_eq]; exact Finset.mem_map.mpr ⟨i, hx, rfl⟩⟩
  · obtain ⟨x, hx⟩ := key i
    exact ⟨x, Finset.mem_univ _, by rw [stripeAt_eq]; exact Finset.mem_map.mpr ⟨i, hx, rfl⟩⟩

/-- A communication buffer, all of it. -/
abbrev bufPts (a : Bool) (c : Dev nD) (f : Buf (Elt F) ((bufM a).view.loc (c : Thread nD τ))) : sProp 𝕄 := (bufM a).view.loc (c : Thread nD τ) ↦{fullShare} f

omit [FloatOps F] in
/-- It is slot 0's stripes and those the hops fill. -/
theorem buf_split (a : Bool) (c : Dev nD) (f : Buf (Elt F) ((bufM a).view.loc (c : Thread nD τ))) :
    bufPts (F := F) a c f ⊢ iprop((bigSep Finset.univ fun s : Fin 4 => some_ a 0 s c) ∗ bigSep Finset.univ fun j : Hop => some_ a j.1.succ j.2 c) := by
  rw [bufPts, Ring.pointsTo_blocks (stripeAt a c) (stripeAt_disjoint a c) (stripeAt_cover a c) f,
    ← bigSep_slots (fun x : Fin 16 × Fin 4 => some_ a x.1 x.2 c)]
  refine bigSep_mono fun x _ => ?_
  show (stripePts a x.1 x.2 c f : sProp 𝕄) ⊢ some_ a x.1 x.2 c
  unfold some_
  iintro H; iexists f; iexact H

omit [FloatOps F] in
/-- The stripes the hops leave and the last slot's make it up again. -/
theorem buf_join (a : Bool) (c : Dev nD) (f : Buf (Elt F) ((bufM a).view.loc (c : Thread nD τ))) :
    iprop((bigSep Finset.univ fun j : Hop => some_ a j.1.castSucc j.2 c) ∗ bigSep Finset.univ fun s : Fin 4 => some_ a 15 s c)
      ⊢ iprop(∃ g, bufPts (F := F) a c g) := by
  rw [← bigSep_slots' (fun x : Fin 16 × Fin 4 => some_ a x.1 x.2 c)]
  refine (bigSep_mono fun x _ => ?_).trans (Ring.pointsTo_blocks_join_exists (stripeAt a c) (stripeAt_disjoint a c) (stripeAt_cover a c) f)
  unfold some_ stripePts
  exact BI.Entails.refl _

/-! ## Loops over slots and stripes -/

/-- Two loops, one inside the other, keep what every turn keeps. -/
theorem runs_loop2 (c : Dev nD) {n : ℕ} (f : Fin n → Fin 4 → Prog (TpuEff nD τ sig (Elt F) Λ₀ .tc) PUnit) (J : ℕ → sProp 𝕄)
    (h : ∀ (i : Fin n) (s : Fin 4), J (4 * i.val + s.val) ⊢ runs c (f i s) (fun _ => J (4 * i.val + s.val + 1))) :
    J 0 ⊢ runs c (loop n fun i => loop 4 fun s => f i s) (fun _ => J (4 * n)) :=
  runs_loop c _ (fun k => J (4 * k)) fun i => runs_loop c (f i) (fun s => J (4 * i.val + s)) fun s => h i s

/-! ## The phases -/

section Phases

variable (X : Dev nD → Vec F S2048x128 .f32) (W : Dev nD → Vec F S128x2048 .f32) (K : Dev nD × Cell → ℕ) (c : Dev nD)

/-- Slot 0's stripes not filled yet, the first `k` gone on. -/
def slot0 (a : Bool) (k : ℕ) : sProp 𝕄 := bigSep Finset.univ fun s : Fin 4 => if s.val < k then iprop(emp) else some_ a 0 s c

omit [FloatOps F] in
/-- One stripe of slot 0 taken out of those that are left, -/
theorem slot0_step (a : Bool) (s : Fin 4) : slot0 (F := F) c a s.val ⊢ iprop(some_ a 0 s c ∗ slot0 c a (s.val + 1)) := by
  unfold slot0
  refine (bigSep_univ_update (Φ := fun s' : Fin 4 => if s'.val < s.val then iprop(emp) else some_ a 0 s' c)
    (Ψ := fun s' : Fin 4 => if s'.val < s.val + 1 then iprop(emp) else some_ a 0 s' c) s ?_).trans ?_
  · intro s' hne
    have : s'.val ≠ s.val := fun h => hne (Fin.ext h)
    by_cases h : s'.val < s.val
    · rw [if_pos h, if_pos (by omega)]
    · rw [if_neg h, if_neg (by omega)]
  · rw [if_neg (Nat.lt_irrefl _), if_pos (Nat.lt_succ_self _)]
    iintro ⟨H, Hb⟩
    isplitl [H]; · iexact H
    iapply Hb; iempintro
omit [FloatOps F] in
/-- which at first are all four. -/
theorem slot0_zero (a : Bool) : slot0 (F := F) c a 0 = bigSep Finset.univ fun s : Fin 4 => some_ a 0 s c :=
  bigSep_congr fun s _ => if_neg (Nat.not_lt_zero _)

/-- The two directions' debts, either one named last. -/
theorem owed_right (k k' : ℕ) : owed c k k' = owedDir true c k' + owedDir false c k := add_comm _ _
/-- What a device still owes is what it owes in either direction. -/
theorem owed_left (k k' : ℕ) : owed c k k' = owedDir false c k + owedDir true c k' := rfl

/-- The filling of slot 0, and its sends: after the first `k` stripes of both directions. -/
def filling (k : ℕ) : sProp 𝕄 :=
  iprop(slot0 c false k ∗ slot0 c true k
    ∗ fam (sendP false c) (sendD false c) k ∗ fam (sendP true c) (sendD true c) k
    ∗ pts c cc0_stg0_0 (X c) ∗ pts c cc0_stg1_0 (W c) ∗ owing c (owed c k k))

/-- One stripe of each direction filled and sent. -/
theorem runs_fill (s : Fin 3) :
    iprop(records (sentV X W) K ∗ filling X W c (s.val + 1))
      ⊢ runs c ((firstOp (bufM false) (bufM_whole false) xM wM 0 (k0_off1 c (BitVec.ofNat 32 (32 * s.succ.val))) (k0_off1_inb c s.succ) s.succ).bind fun _ =>
          (sendOp (bufM false) (bufM_whole false) (sendA false) (recvA false) (next false c) 0 s.succ).bind fun _ =>
          (firstOp (bufM true) (bufM_whole true) xM wM 1 (k0_off2 c (BitVec.ofNat 32 (32 * s.succ.val))) (k0_off2_inb c s.succ) s.succ).bind fun _ =>
          sendOp (bufM true) (bufM_whole true) (sendA true) (recvA true) (next true c) 0 s.succ)
          (fun _ => iprop(records (sentV X W) K ∗ filling X W c (s.val + 1 + 1))) := by
  have e : idx (0, s.succ) = s.val + 1 := by simp only [idx, Fin.val_succ, Fin.val_zero]; omega
  have e' : s.succ.val = s.val + 1 := Fin.val_succ s
  unfold filling
  iintro ⟨#HR, H0, H1, Hf, Ht, Hx, Hw, HO⟩
  rw [← e']
  ihave Ha := (slot0_step c false s.succ) $$ H0
  icases Ha with ⟨Hs, H0⟩
  iapply (runs_then c (runs_first false c 0 (k0_off1 c (BitVec.ofNat 32 (32 * s.succ.val))) (k0_off1_inb c s.succ) s.succ (X c) (W c))) $$ [Hs Hx Hw]
  · isplitl [Hs]; · iexact Hs
    isplitl [Hx] <;> iassumption
  iintro ⟨Hs, Hx, Hw⟩
  have hf := runs_send (sentV X W) K false c (owedDir true c s.succ.val) 0 s.succ
  rw [e, ← e'] at hf
  iapply (runs_then c hf) $$ [Hf Hs HO]
  · isplitr; · iexact HR
    isplitl [Hf]; · iexact Hf
    isplitl [Hs]; · iexact Hs
    rw [owed_right]; iexact HO
  iintro ⟨Hf, HO⟩
  ihave Ha := (slot0_step c true s.succ) $$ H1
  icases Ha with ⟨Hs, H1⟩
  iapply (runs_then c (runs_first true c 1 (k0_off2 c (BitVec.ofNat 32 (32 * s.succ.val))) (k0_off2_inb c s.succ) s.succ (X c) (W c))) $$ [Hs Hx Hw]
  · isplitl [Hs]; · iexact Hs
    isplitl [Hx] <;> iassumption
  iintro ⟨Hs, Hx, Hw⟩
  have ht := runs_send (sentV X W) K true c (owedDir false c (s.succ.val + 1)) 0 s.succ
  rw [e, ← e'] at ht
  ihave Hr := ht $$ [Ht Hs HO]
  · isplitr; · iexact HR
    isplitl [Ht]; · iexact Ht
    isplitl [Hs]; · iexact Hs
    rw [add_comm]; iexact HO
  iapply (wp_wand frame _ Set.univ) $$ Hr
  iintro %_ ⟨Ht, HO⟩
  isplitr; · iexact HR
  isplitl [H0]; · iexact H0
  isplitl [H1]; · iexact H1
  isplitl [Hf]; · iexact Hf
  isplitl [Ht]; · iexact Ht
  isplitl [Hx]; · iexact Hx
  isplitl [Hw]; · iexact Hw
  rw [owed_left]; iexact HO

/-- The hops: after the first `k` of both directions' fourteen times four. -/
def hopping (k : ℕ) : sProp 𝕄 :=
  iprop(fam (recvP false c) (recvD false c) k ∗ fam (sendP false c) (sendD false c) (k + 4)
    ∗ fam (recvP true c) (recvD true c) k ∗ fam (sendP true c) (sendD true c) (k + 4)
    ∗ pts c cc0_scratch2 (prod X W c) ∗ owing c (owed c (k + 4) (k + 4)))

/-- One hop of a stripe of each direction. -/
theorem runs_hops (h : Fin 14) (s : Fin 4) :
    iprop((records (sentV X W) K ∗ levAts L lv) ∗ hopping X W c (4 * h.val + s.val))
      ⊢ runs c ((hopOp (bufM false) (bufM_whole false) (sendA false) (recvA false) (next false c) pM h s
            (k0_off3 c (BitVec.ofNat 32 (1 + h.val)) (BitVec.ofNat 32 (32 * s.val))) (k0_off3_inb c h s)).bind fun _ =>
          hopOp (bufM true) (bufM_whole true) (sendA true) (recvA true) (next true c) pM h s
            (k0_off4 c (BitVec.ofNat 32 (1 + h.val)) (BitVec.ofNat 32 (32 * s.val))) (k0_off4_inb c h s))
          (fun _ => iprop((records (sentV X W) K ∗ levAts L lv) ∗ hopping X W c (4 * h.val + s.val + 1))) := by
  have e : idx (h.castSucc, s) = 4 * h.val + s.val := rfl
  have e' : idx (h.succ, s) = 4 * h.val + s.val + 4 := by simp only [idx, Fin.val_succ]; omega
  have e2 : 4 * h.val + s.val + 1 + 4 = 4 * h.val + s.val + 4 + 1 := by omega
  have hs := s.isLt
  unfold hopping
  rw [e2]
  iintro ⟨⟨#HR, #Hlev⟩, Hrf, Hsf, Hrt, Hst, Hp, HO⟩
  have hf := runs_hop (sentV X W) K false c (owedDir true c (4 * h.val + s.val + 4)) h s (above_owedDir (by omega) _ _) _
    (k0_off3_inb c h s) (prod X W c) (sentV_succ X W false c h s)
  rw [e, e'] at hf
  iapply (runs_then c hf) $$ [Hrf Hsf Hp HO]
  · isplitr; · iexact HR
    isplitr; · iexact Hlev
    isplitl [Hrf]; · iexact Hrf
    isplitl [Hsf]; · iexact Hsf
    isplitl [Hp]; · iexact Hp
    rw [owed_right]; iexact HO
  iintro ⟨Hrf, Hsf, Hp, HO⟩
  have ht := runs_hop (sentV X W) K true c (owedDir false c (4 * h.val + s.val + 4 + 1)) h s (above_owedDir (by omega) _ _) _
    (k0_off4_inb c h s) (prod X W c) (sentV_succ X W true c h s)
  rw [e, e'] at ht
  ihave Hr := ht $$ [Hrt Hst Hp HO]
  · isplitr; · iexact HR
    isplitr; · iexact Hlev
    isplitl [Hrt]; · iexact Hrt
    isplitl [Hst]; · iexact Hst
    isplitl [Hp]; · iexact Hp
    rw [add_comm]; iexact HO
  iapply (wp_wand frame _ Set.univ) $$ Hr
  iintro %_ ⟨Hrt, Hst, Hp, HO⟩
  isplitr
  · isplitr; · iexact HR
    iexact Hlev
  isplitl [Hrf]; · iexact Hrf
  isplitl [Hsf]; · iexact Hsf
  isplitl [Hrt]; · iexact Hrt
  isplitl [Hst]; · iexact Hst
  isplitl [Hp]; · iexact Hp
  rw [owed_left]; iexact HO

/-- The last hops: after the first `k` stripes, whose part of the result is in place. -/
def ending (k : ℕ) : sProp 𝕄 :=
  iprop(fam (recvP false c) (recvD false c) (56 + k) ∗ fam (recvP true c) (recvD true c) (56 + k)
    ∗ pts c cc0_scratch2 (prod X W c) ∗ owing c 0
    ∗ ∃ fo : Vec F S128x2048 .f32, ⌜∀ i : S128x2048.Idx, (i (0 : Fin 2)).val / 32 < k → fo i = outV X W c i⌝ ∗ pts c cc0_stg2_0 fo)

/-- The last hop of a stripe of each direction. -/
theorem runs_ends (s : Fin 4) :
    iprop((records (sentV X W) K ∗ levAts L lv) ∗ ending X W c s.val)
      ⊢ runs c ((lastOp (bufM false) (bufM_whole false) (recvA false) pM oM 0 s (k0_off5 c (BitVec.ofNat 32 (32 * s.val))) (k0_off5_inb c s)).bind fun _ =>
          lastOp (bufM true) (bufM_whole true) (recvA true) pM oM 1 s (k0_off6 c (BitVec.ofNat 32 (32 * s.val))) (k0_off6_inb c s))
          (fun _ => iprop((records (sentV X W) K ∗ levAts L lv) ∗ ending X W c (s.val + 1))) := by
  have e : idx (Fin.last 14, s) = 56 + s.val := rfl
  unfold ending
  iintro ⟨⟨#HR, #Hlev⟩, Hrf, Hrt, Hp, HO, ⟨%fo, %hfo, Hout⟩⟩
  have hf := runs_last (sentV X W) K false c 0 0 s (above_zero _) _ (k0_off5_inb c s) (prod X W c) fo
  rw [e] at hf
  iapply (runs_then c hf) $$ [Hrf Hp Hout HO]
  · isplitr; · iexact HR
    isplitr; · iexact Hlev
    isplitl [Hrf]; · iexact Hrf
    isplitl [Hp]; · iexact Hp
    isplitl [Hout] <;> iassumption
  iintro ⟨Hrf, Hp, Hout, HO⟩
  have ht := runs_last (sentV X W) K true c 0 1 s (above_zero _) _ (k0_off6_inb c s) (prod X W c)
    ((oM.access (outR s 0) : View sig .tc _ _ _).write (Elt F) fo (lastV X W false c s) Finset.univ)
  rw [e] at ht
  ihave Hr := ht $$ [Hrt Hp Hout HO]
  · isplitr; · iexact HR
    isplitr; · iexact Hlev
    isplitl [Hrt]; · iexact Hrt
    isplitl [Hp]; · iexact Hp
    isplitl [Hout]; · iexact Hout
    iexact HO
  iapply (wp_wand frame _ Set.univ) $$ Hr
  iintro %_ ⟨Hrt, Hp, Hout, HO⟩
  isplitr
  · isplitr; · iexact HR
    iexact Hlev
  isplitl [Hrf]; · iexact Hrf
  isplitl [Hrt]; · iexact Hrt
  isplitl [Hp]; · iexact Hp
  isplitl [HO]; · iexact HO
  iexists _
  isplitr
  swap; · iexact Hout
  ipureintro
  intro i hi
  refine (store_out X W true c s _ i).trans ?_
  by_cases ht : (i (0 : Fin 2)).val / 32 = s.val ∧ (decide (1024 ≤ (i (1 : Fin 2)).val)) = true
  · rw [if_pos ht]
  rw [if_neg ht]
  refine (store_out X W false c s fo i).trans ?_
  by_cases hf : (i (0 : Fin 2)).val / 32 = s.val ∧ (decide (1024 ≤ (i (1 : Fin 2)).val)) = false
  · rw [if_pos hf]
  rw [if_neg hf]
  refine hfo i ?_
  have : (i (0 : Fin 2)).val / 32 ≠ s.val := fun h => by
    cases hd : decide (1024 ≤ (i (1 : Fin 2)).val)
    · exact hf ⟨h, hd⟩
    · exact ht ⟨h, hd⟩
  omega

/-- The waits for the sends: after the first `k` of both directions. -/
def draining (k : ℕ) : sProp 𝕄 := iprop(fam (sentP false c) (sentD false c) k ∗ fam (sentP true c) (sentD true c) k ∗ owing c 0)

/-- The wait for a stripe of each direction. -/
theorem runs_drain (h : Fin 15) (s : Fin 4) :
    iprop(records (sentV X W) K ∗ draining c (4 * h.val + s.val))
      ⊢ runs c ((sentOp (bufM false) (bufM_whole false) (sendA false) h s).bind fun _ => sentOp (bufM true) (bufM_whole true) (sendA true) h s)
          (fun _ => iprop(records (sentV X W) K ∗ draining c (4 * h.val + s.val + 1))) := by
  unfold draining
  iintro ⟨#HR, Hf, Ht, HO⟩
  iapply (runs_then c (runs_sent (sentV X W) K false c h s)) $$ [Hf HO]
  · isplitr; · iexact HR
    isplitl [Hf]; · iexact Hf
    iexact HO
  iintro ⟨Hf, HO⟩
  ihave Hr := (runs_sent (sentV X W) K true c h s) $$ [Ht HO]
  · isplitr; · iexact HR
    isplitl [Ht]; · iexact Ht
    iexact HO
  iapply (wp_wand frame _ Set.univ) $$ Hr
  iintro %_ ⟨Ht, HO⟩
  isplitr; · iexact HR
  isplitl [Hf]; · iexact Hf
  isplitl [Ht] <;> iassumption

end Phases

end Cert.RingProof

end
-- ==== Proof.Sound.lean ====
/-
  The body as a whole: the handshake with the two neighbours, the phases one after the other, and every semaphore back at
  zero.
-/
module

public import proofs.«01_k».proof.Proof.Body

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Handshake

variable (V : Bool → Dev nD → Hop → Vec F S1x32x1024 .bf16) (K : Dev nD × Cell → ℕ) (a : Bool) (c : Dev nD)

/-- The signal to a neighbour hands it the slots that it is going to write to. -/
theorem runs_signal (O : CellTallies nD τ sig Unit) :
    iprop(records V K ∗ dutyTok ER (barCell (next a c)) 0 (!a) ∗ (bigSep Finset.univ fun j : Hop => some_ (!a) j.1.succ j.2 c)
        ∗ owing c (O + tallyAt (barCell (next a c)) () 1))
      ⊢ runs c (semSignalWord (next a c) barS 1#32) (fun _ => owing c O) := by
  unfold owing
  iintro ⟨#HR, Ht, Hs, ⟨%W, HO⟩⟩
  have hd : (!a) ∈ (sched V).duties (barCell (next a c)) 0 := by rw [duties_bar]; exact Finset.mem_univ _
  have hp : (bigSep Finset.univ fun j : Hop => some_ (F := F) (!a) j.1.succ j.2 c) ⊢ (sched V).payload ((next a c : Thread nD τ), SemLoc.reg barS) 0 (!a) := by
    show _ ⊢ (sched V).payload (barCell (next a c)) 0 (!a)
    rw [payload_bar]; unfold barPay; rw [next_next']
  simp only [semSignalWord, Prog.lift]
  iapply (Rounds.wp_signal 𝒱₀ ER (sched V) (c : Thread nD τ) none (dst := (next a c : Thread nD τ)) (κ := K (next a c, .inl ()))
      (d := !a) hd ((amount_bar V (next a c) (!a)).trans (by decide)) () O rfl) $$ [HO Ht Hs]
  · isplitr; · iapply (records_inv V K (next a c, .inl ())); iexact HR
    isplitl [HO]; · iexact HO
    isplitl [Ht]; · iexact Ht
    isplitl [Hs]; · iapply hp; iexact Hs
    iapply (records_reached V K (next a c, .inl ())); iexact HR
  iintro HO
  rw [wp_ret]; imodintro
  iexists W; iexact HO

/-- The wait for both neighbours brings their slots. -/
theorem runs_barrier (O : CellTallies nD τ sig Unit) (hO : Above 1 O) :
    iprop(records V K ∗ levAts L lv ∗ atPos ER (barCell c) 0 ∅ 0 ∗ cred (tallyAt (barCell c) () 2) ∗ owing c O)
      ⊢ runs c (semWaitWord barS 2#32) (fun _ => iprop(semVal (barCell c) 0 ∗ barPay c false ∗ barPay c true ∗ owing c O)) := by
  unfold owing
  iintro ⟨#HR, #Hlev, Hat, Hc, ⟨%W, HO⟩⟩
  simp only [semWaitWord, Prog.lift]
  iapply (Rounds.wp_wait_rest_token 𝒱₀ ER (sched V) (c : Thread nD τ) none (κ := K (c, .inl ()))
      (wpE_semWait_eq 𝒱₀ (c : Thread nD τ) none Set.univ) (Set.mem_univ _) () (O := O) (W := W) (R := 0) (m := 0) (T := ∅)
      ((show 0 + (2#32).toNat = 2 by decide).trans (expect_bar V c).symm)) $$ [Hc HO Hat]
  · isplitr; · iapply (records_inv V K (c, .inl ())); iexact HR
    isplitl [Hc]; · iexact Hc
    isplitl [HO]; · iexact HO
    isplitr
    · iapply (mayWait c _ (n := 1) (le_of_eq (lv_bar c ())) hO); iexact Hlev
    iexact Hat
  iintro ⟨HO, Hat, -, Hpay⟩
  imod (close V K (c, .inl ()) (0 + 1) (duties_later V _)) $$ [Hat] with Hz
  · isplitr; · iexact HR
    iexact Hat
  have hq : bigSep ((sched V).duties ((c : Thread nD τ), SemLoc.reg barS) 0 \ ∅) (fun d => (sched V).payload ((c : Thread nD τ), SemLoc.reg barS) 0 d)
    = iprop(barPay c false ∗ barPay c true) := rest_bar V c
  ihave Hp := (Entails.of_eq hq) $$ Hpay
  icases Hp with ⟨Hf, Ht⟩
  rw [wp_ret]; imodintro
  isplitl [Hz]; · iexact Hz
  isplitl [Hf]; · iexact Hf
  isplitl [Ht]; · iexact Ht
  iexists (insert (SemLoc.reg barS, ()) W); iexact HO

/-- What a device starts with for one direction: the right to signal its transfers' ends, and its place in the rounds of
    its own semaphores; -/
def dirStart : sProp 𝕄 :=
  iprop((bigSep Finset.univ fun j : Hop => dutyTok ER (recvCell a (next a c) j) 0 false) ∗ (bigSep Finset.univ fun j : Hop => dutyTok ER (sendCell a c j) 0 false)
    ∗ (bigSep Finset.univ fun j : Hop => recvP a c j) ∗ (bigSep Finset.univ fun j : Hop => atPos ER (sendCell a c j) 0 ∅ 0)
    ∗ bigSep Finset.univ fun s : Fin 4 => atPos ER (kcell (c, .inr (.inr (a, 0, s)))) 0 ∅ 0)
/-- and what it ends with: these semaphores at zero. -/
def dirEnd : sProp 𝕄 :=
  iprop((bigSep Finset.univ fun j : Hop => semVal (sendCell a c j) 0) ∗ (bigSep Finset.univ fun j : Hop => semVal (recvCell a c j) 0)
    ∗ bigSep Finset.univ fun s : Fin 4 => semVal (kcell (c, .inr (.inr (a, 0, s)))) 0)

omit [FloatOps F] in
/-- A neighbour's slots and the rights make the sends possible. -/
theorem sends_intro :
    iprop(barPay c a ∗ (bigSep Finset.univ fun j : Hop => dutyTok ER (recvCell a (next a c) j) 0 false) ∗ (bigSep Finset.univ fun j : Hop => dutyTok ER (sendCell a c j) 0 false))
      ⊢ fam (F := F) (sendP a c) (sendD a c) 0 := by
  rw [fam_zero]; unfold barPay sendP
  rw [bigSep_sep', bigSep_sep']

omit [FloatOps F] in
/-- All sends done, their completions can be waited for. -/
theorem sent_intro :
    iprop(fam (F := F) (sendP a c) (sendD a c) 60 ∗ bigSep Finset.univ fun j : Hop => atPos ER (sendCell a c j) 0 ∅ 0)
      ⊢ fam (sentP a c) (sentD a c) 0 := by
  rw [fam_zero, fam_end]; unfold sentP
  rw [bigSep_sep']

omit [FloatOps F] in
/-- The receives of slot 0, which nothing uses, close at once. -/
theorem close_unused :
    iprop(records V K ∗ bigSep Finset.univ fun s : Fin 4 => atPos ER (kcell (c, .inr (.inr (a, 0, s)))) 0 ∅ 0)
      ⊢ |={Set.univ}=> bigSep Finset.univ fun s : Fin 4 => semVal (kcell (c, .inr (.inr (a, 0, s)))) 0 :=
  (BI.bigSep_with_persistent fun s _ => close V K (c, .inr (.inr (a, 0, s))) 0 (duties_unused V a c s)).trans (bigSep_fupd _ _)

omit [FloatOps F] in
/-- The last slot's stripes, out of what the receives leave. -/
theorem recv_end :
    fam (F := F) (recvP a c) (recvD a c) 60
      ⊢ iprop((bigSep Finset.univ fun j : Hop => semVal (recvCell a c j) 0) ∗ bigSep Finset.univ fun s : Fin 4 => some_ a 15 s c) := by
  rw [fam_end]; unfold recvD
  rw [bigSep_sep', bigSep_univ_prod (fun j : Hop => if j.1 = Fin.last 14 then some_ a j.1.succ j.2 c else iprop(emp))]
  refine sep_mono_right ((one_of _ (Fin.last 14)).trans (bigSep_mono fun s _ => ?_))
  rw [if_pos rfl]; exact BI.Entails.refl _

omit [FloatOps F] in
/-- All waits done: the semaphores at zero, the buffer whole. -/
theorem dir_end (f : Buf (Elt F) ((bufM a).view.loc (c : Thread nD τ))) :
    iprop(fam (recvP a c) (recvD a c) 60 ∗ fam (sentP a c) (sentD a c) 60 ∗ bigSep Finset.univ fun s : Fin 4 => semVal (kcell (c, .inr (.inr (a, 0, s)))) 0)
      ⊢ iprop(dirEnd a c ∗ ∃ g, bufPts (F := F) a c g) := by
  rw [fam_end (sentP a c)]; unfold sentD dirEnd
  rw [bigSep_sep']
  iintro ⟨Hr, ⟨Hz, Hs⟩, Hu⟩
  ihave Hr' := (recv_end a c) $$ Hr
  icases Hr' with ⟨Hr, Hl⟩
  isplitl [Hz Hr Hu]
  · isplitl [Hz]; · iexact Hz
    isplitl [Hr] <;> iassumption
  iapply (buf_join a c f)
  isplitl [Hs] <;> iassumption

end Handshake

section Whole

variable (X : Dev nD → Vec F S2048x128 .f32) (W : Dev nD → Vec F S128x2048 .f32) (K : Dev nD × Cell → ℕ) (c : Dev nD)

/-- What a device starts with: the protocol, its claim to the barrier's two units, the right to signal its neighbours, and
    both directions' share. -/
def devStart : sProp 𝕄 :=
  iprop(records (sentV X W) K ∗ levAts L lv ∗ atPos ER (barCell c) 0 ∅ 0 ∗ cred (tallyAt (barCell c) () 2)
    ∗ dutyTok ER (barCell (next true c)) 0 false ∗ dutyTok ER (barCell (next false c)) 0 true ∗ dirStart false c ∗ dirStart true c)

/-- Its own buffers before; -/
def devBufs (fb : ∀ a, Buf (Elt F) ((bufM a).view.loc (c : Thread nD τ))) (fp : Buf (Elt F) ((c : Thread nD τ).loc cc0_scratch2)) (fo : Buf (Elt F) ((c : Thread nD τ).loc cc0_stg2_0)) : sProp 𝕄 :=
  iprop(bufPts false c (fb false) ∗ bufPts true c (fb true) ∗ pts c cc0_scratch2 fp ∗ pts c cc0_stg2_0 fo ∗ pts c cc0_stg0_0 (X c) ∗ pts c cc0_stg1_0 (W c))

/-- what it ends with: all semaphores at zero, its buffers, the result in place, nothing owed. -/
def devEnd : sProp 𝕄 :=
  iprop(semVal (barCell c) 0 ∗ (dirEnd false c ∗ ∃ g, bufPts (F := F) false c g) ∗ (dirEnd true c ∗ ∃ g, bufPts (F := F) true c g)
    ∗ (∃ g : Buf (Elt F) ((c : Thread nD τ).loc cc0_scratch2), pts c cc0_scratch2 g) ∗ pts c cc0_stg2_0 (outV X W c) ∗ pts c cc0_stg0_0 (X c) ∗ pts c cc0_stg1_0 (W c) ∗ owing c 0)

/-- The offsets 0, 0. -/
theorem zero2 : (![0, 0] : Fin 2 → Nat) = fun _ => 0 := by funext i; fin_cases i <;> rfl

/-- The body, from its start to its end. -/
theorem runs_body (fb fp fo) :
    iprop(devStart X W K c ∗ devBufs X W c fb fp fo ∗ owing c (O₀ c))
      ⊢ runs c (bodyAt xM wM oM (bufM false) (bufM_whole false) (bufM true) (bufM_whole true) pM (sendA false) (sendA true) (recvA false) (recvA true) c)
          (fun _ => devEnd X W c) := by
  unfold devStart devBufs dirStart O₀ bodyAt
  iintro ⟨⟨#HR, #Hlev, HatB, HcB, HtT, HtF, ⟨HrtF, HstF, HrF, HsaF, HuF⟩, HrtT, HstT, HrT, HsaT, HuT⟩, ⟨HbF, HbT, Hp, Hout, Hx, Hw⟩, HO⟩
  ihave HbF' := (buf_split false c (fb false)) $$ HbF
  icases HbF' with ⟨HsF, HbF⟩
  ihave HbT' := (buf_split true c (fb true)) $$ HbT
  icases HbT' with ⟨HsT, HbT⟩
  -- the two signals
  iapply (runs_then c (runs_signal (sentV X W) K true c (owed c 0 0 + tallyAt (barCell (next false c)) () 1))) $$ [HtT HbF HO]
  · isplitr; · iexact HR
    isplitl [HtT]; · iexact HtT
    isplitl [HbF]; · iexact HbF
    iexact HO
  iintro HO
  iapply (runs_then c (runs_signal (sentV X W) K false c (owed c 0 0))) $$ [HtF HbT HO]
  · isplitr; · iexact HR
    isplitl [HtF]; · iexact HtF
    isplitl [HbT]; · iexact HbT
    iexact HO
  iintro HO
  -- the first stripe of both directions
  ihave HsF := (Entails.of_eq (slot0_zero c false).symm) $$ HsF
  ihave HsT := (Entails.of_eq (slot0_zero c true).symm) $$ HsT
  have h0 (a : Bool) : slot0 (F := F) c a 0 ⊢ iprop(some_ a 0 0 c ∗ slot0 c a 1) := slot0_step c a 0
  ihave Ha := (h0 false) $$ HsF
  icases Ha with ⟨Hs0, HsF⟩
  ihave Ha := (h0 true) $$ HsT
  icases Ha with ⟨Hs1, HsT⟩
  iapply (runs_then c (runs_first false c 0 _ (k0_off1_inb c 0) 0 (X c) (W c))) $$ [Hs0 Hx Hw]
  · isplitl [Hs0]; · iexact Hs0
    isplitl [Hx] <;> iassumption
  iintro ⟨Hs0, Hx, Hw⟩
  iapply (runs_then c (runs_first true c 1 _ (k0_off2_inb c 0) 0 (X c) (W c))) $$ [Hs1 Hx Hw]
  · isplitl [Hs1]; · iexact Hs1
    isplitl [Hx] <;> iassumption
  iintro ⟨Hs1, Hx, Hw⟩
  -- the barrier
  iapply (runs_then c (runs_barrier (sentV X W) K c (owed c 0 0) ((above_owedDir (by omega) _ _).add (above_owedDir (by omega) _ _)))) $$ [HatB HcB HO]
  · isplitr; · iexact HR
    isplitr; · iexact Hlev
    isplitl [HatB]; · iexact HatB
    isplitl [HcB] <;> iassumption
  iintro ⟨HzB, HpF, HpT, HO⟩
  ihave HfF := (sends_intro false c) $$ [HpF HrtF HstF]
  · isplitl [HpF]; · iexact HpF
    isplitl [HrtF] <;> iassumption
  ihave HfT := (sends_intro true c) $$ [HpT HrtT HstT]
  · isplitl [HpT]; · iexact HpT
    isplitl [HrtT] <;> iassumption
  -- the first sends
  iapply (runs_then c (runs_send (sentV X W) K false c (owedDir true c 0) 0 0)) $$ [HfF Hs0 HO]
  · isplitr; · iexact HR
    isplitl [HfF]; · iexact HfF
    isplitl [Hs0]; · iexact Hs0
    ihave HO := (Entails.of_eq (congrArg (owing c) (owed_right c 0 0))) $$ HO
    iexact HO
  iintro ⟨HfF, HO⟩
  iapply (runs_then c (runs_send (sentV X W) K true c (owedDir false c 1) 0 0)) $$ [HfT Hs1 HO]
  · isplitr; · iexact HR
    isplitl [HfT]; · iexact HfT
    isplitl [Hs1]; · iexact Hs1
    ihave HO := (Entails.of_eq (congrArg (owing c) (add_comm (owedDir true c 0) (owedDir false c 1)))) $$ HO
    iexact HO
  iintro ⟨HfT, HO⟩
  -- the other three stripes
  iapply (runs_then c (runs_loop c _ (fun k => iprop(records (sentV X W) K ∗ filling X W c (k + 1))) fun s => runs_fill X W K c s)) $$ [HsF HsT HfF HfT Hx Hw HO]
  · isplitr; · iexact HR
    unfold filling
    isplitl [HsF]; · iexact HsF
    isplitl [HsT]; · iexact HsT
    isplitl [HfF]; · iexact HfF
    isplitl [HfT]; · iexact HfT
    isplitl [Hx]; · iexact Hx
    isplitl [Hw]; · iexact Hw
    iexact HO
  unfold filling
  iintro ⟨-, -, -, HfF, HfT, Hx, Hw, HO⟩
  -- the partial product
  iapply (wp_load_rect 𝒱₀ (c : Thread nD τ) none Set.univ (m := xM) (r := Rect.unit (s := S2048x128) ![0, 0] S2048x128.size inb_S2048x128_S2048x128_0_0) (Finset.subset_univ _)) $$ Hx
  iintro Hx
  iapply (wp_load_rect 𝒱₀ (c : Thread nD τ) none Set.univ (m := wM) (r := Rect.unit (s := S128x2048) ![0, 0] S128x2048.size inb_S128x2048_S128x2048_0_0) (Finset.subset_univ _)) $$ Hw
  iintro Hw
  iapply (wp_load_rect 𝒱₀ (c : Thread nD τ) none Set.univ (m := pM) (r := Rect.unit (s := S2048x2048) ![0, 0] S2048x2048.size inb_S2048x2048_S2048x2048_0_0) (Finset.subset_univ _)) $$ Hp
  iintro Hp
  iapply (wp_store 𝒱₀ (c : Thread nD τ) none Set.univ (m := pM) (r := Rect.unit (s := S2048x2048) ![0, 0] S2048x2048.size inb_S2048x2048_S2048x2048_0_0) (Mk := Finset.univ) (Finset.subset_univ _)) $$ Hp
  iintro Hp
  have ex : (xM.access (Rect.unit (s := S2048x128) ![0, 0] S2048x128.size inb_S2048x128_S2048x128_0_0) : View sig .tc _ _ _).read (Elt F) (X c) = X c :=
    Memref.read_access_unit_zero (Elt F) cc0_stg0_0 zero2 _ _
  have ew : (wM.access (Rect.unit (s := S128x2048) ![0, 0] S128x2048.size inb_S128x2048_S128x2048_0_0) : View sig .tc _ _ _).read (Elt F) (W c) = W c :=
    Memref.read_access_unit_zero (Elt F) cc0_stg1_0 zero2 _ _
  have ep : ∀ v : Vec F S2048x2048 .f32, (pM.access (Rect.unit (s := S2048x2048) ![0, 0] S2048x2048.size inb_S2048x2048_S2048x2048_0_0) : View sig .tc _ _ _).write (Elt F) fp v Finset.univ = v :=
    fun v => Memref.write_access_unit_zero_univ (Elt F) cc0_scratch2 zero2 _ _ _
  rw [ex, ew, ep]
  -- the hops
  iapply (runs_then c (runs_loop2 c _ (fun k => iprop((records (sentV X W) K ∗ levAts L lv) ∗ hopping X W c k)) fun h s => runs_hops X W K c h s)) $$ [HrF HrT HfF HfT Hp HO]
  · isplitr
    · isplitr; · iexact HR
      iexact Hlev
    unfold hopping
    rw [fam_zero, fam_zero]
    isplitl [HrF]; · iexact HrF
    isplitl [HfF]; · iexact HfF
    isplitl [HrT]; · iexact HrT
    isplitl [HfT]; · iexact HfT
    isplitl [Hp]; · iexact Hp
    iexact HO
  unfold hopping
  iintro ⟨-, HrF, HfF, HrT, HfT, Hp, HO⟩
  -- the last hops
  have eo : owed c (4 * 14 + 4) (4 * 14 + 4) = 0 := by
    show owedDir false c 60 + owedDir true c 60 = 0
    rw [owedDir_end, owedDir_end, add_zero]
  rw [eo]
  iapply (runs_then c (runs_loop c _ (fun k => iprop((records (sentV X W) K ∗ levAts L lv) ∗ ending X W c k)) fun s => runs_ends X W K c s)) $$ [HrF HrT Hp Hout HO]
  · isplitr
    · isplitr; · iexact HR
      iexact Hlev
    unfold ending
    isplitl [HrF]; · iexact HrF
    isplitl [HrT]; · iexact HrT
    isplitl [Hp]; · iexact Hp
    isplitl [HO]; · iexact HO
    iexists fo
    isplitr; · ipureintro; exact fun _ h => absurd h (Nat.not_lt_zero _)
    iexact Hout
  unfold ending
  iintro ⟨-, HrF, HrT, Hp, HO, ⟨%fo', %hfo, Hout⟩⟩
  have ho : fo' = outV X W c := funext fun i => hfo i (by have : (i (0 : Fin 2)).val < 128 := (i (0 : Fin 2)).isLt; omega)
  subst ho
  -- the waits for the sends
  ihave HfF := (sent_intro false c) $$ [HfF HsaF]
  · isplitl [HfF] <;> iassumption
  ihave HfT := (sent_intro true c) $$ [HfT HsaT]
  · isplitl [HfT] <;> iassumption
  ihave Hr := (runs_loop2 c _ (fun k => iprop(records (sentV X W) K ∗ draining c k)) fun h s => runs_drain X W K c h s) $$ [HfF HfT HO]
  · isplitr; · iexact HR
    unfold draining
    isplitl [HfF]; · iexact HfF
    isplitl [HfT] <;> iassumption
  iapply (wp_fupd frame _ Set.univ)
  iapply (wp_wand frame _ Set.univ) $$ Hr
  unfold draining
  iintro %_ ⟨-, HfF, HfT, HO⟩
  imod (close_unused (sentV X W) K false c) $$ [HuF] with HuF
  · isplitr; · iexact HR
    iexact HuF
  imod (close_unused (sentV X W) K true c) $$ [HuT] with HuT
  · isplitr; · iexact HR
    iexact HuT
  imodintro
  unfold devEnd
  isplitl [HzB]; · iexact HzB
  isplitl [HrF HfF HuF]
  · iapply (dir_end false c (fb false))
    isplitl [HrF]; · iexact HrF
    isplitl [HfF] <;> iassumption
  isplitl [HrT HfT HuT]
  · iapply (dir_end true c (fb true))
    isplitl [HrT]; · iexact HrT
    isplitl [HfT] <;> iassumption
  isplitl [Hp]; · iexists (prod X W c); iexact Hp
  isplitl [Hout]; · iexact Hout
  isplitl [Hx]; · iexact Hx
  isplitl [Hw] <;> iassumption

end Whole

end Cert.RingProof

end
-- ==== Proof.Deal.lean ====
/-
  What a device's share at launch is made of: the protocol's ghost state, made once for the whole mesh and dealt to the
  devices. A cell's tokens are minted with the cell; each then goes to the device that performs the duty: the barrier's to
  the two neighbours, a receive's to the sender.
-/
module

public import proofs.«01_k».proof.Proof.Sound
public import proofs.«01_k».proof.Proof.Gen.KernelIdeal.Launch

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A device's cells, one after another -/

omit [FloatOps F] in
/-- A product over the two directions. -/
theorem bigSep_bool (Φ : Bool → sProp 𝕄) : bigSep Finset.univ Φ = iprop(Φ false ∗ Φ true) :=
  bigSep_univ_eq_bigSepL [false, true] (by decide) (by decide) Φ

/-- A statement about each of a direction's semaphores: the sends, the receives, the unused ones of slot 0. -/
def dirAll (Φ : Own → sProp 𝕄) (a : Bool) : sProp 𝕄 :=
  iprop((bigSep Finset.univ fun j : Hop => Φ (.inl (a, j))) ∗ (bigSep Finset.univ fun j : Hop => Φ (.inr (a, j.1.succ, j.2)))
    ∗ bigSep Finset.univ fun s : Fin 4 => Φ (.inr (a, 0, s)))

omit [FloatOps F] in
/-- Six assertions in another order. -/
theorem regroup6 (A B C D E G : sProp 𝕄) : iprop((A ∗ B) ∗ (C ∗ D) ∗ E ∗ G) = iprop((A ∗ D ∗ C) ∗ B ∗ G ∗ E) := by
  have h1 : iprop((A ∗ B) ∗ (C ∗ D) ∗ E ∗ G) ⊢ iprop((A ∗ D ∗ C) ∗ B ∗ G ∗ E) := by
    iintro ⟨⟨H1, H2⟩, ⟨H3, H4⟩, H5, H6⟩
    isplitl [H1 H3 H4]
    · isplitl [H1]; · iexact H1
      isplitl [H4] <;> iassumption
    isplitl [H2]; · iexact H2
    isplitl [H6] <;> iassumption
  have h2 : iprop((A ∗ D ∗ C) ∗ B ∗ G ∗ E) ⊢ iprop((A ∗ B) ∗ (C ∗ D) ∗ E ∗ G) := by
    iintro ⟨⟨H1, H4, H3⟩, H2, H6, H5⟩
    isplitl [H1 H2]
    · isplitl [H1] <;> iassumption
    isplitl [H3 H4]
    · isplitl [H3] <;> iassumption
    isplitl [H5] <;> iassumption
  exact BI.Entails.antisymm h1 h2

omit [FloatOps F] in
/-- All the semaphores of the kernel's own are those of the two directions; -/
theorem bigSep_own (Φ : Own → sProp 𝕄) : bigSep Finset.univ Φ = iprop(dirAll Φ false ∗ dirAll Φ true) := by
  rw [bigSep_univ_sum, bigSep_univ_prod, bigSep_univ_prod (fun b : Bool × (Fin 16 × Fin 4) => Φ (.inr b)), bigSep_bool, bigSep_bool,
    bigSep_slots (fun k : Fin 16 × Fin 4 => Φ (.inr (false, k))), bigSep_slots (fun k : Fin 16 × Fin 4 => Φ (.inr (true, k)))]
  exact regroup6 _ _ _ _ _ _

omit [FloatOps F] in
/-- and all of a device's are the barrier and those. -/
theorem bigSep_cell (Φ : Cell → sProp 𝕄) :
    bigSep Finset.univ Φ = iprop(Φ (.inl ()) ∗ dirAll (fun k => Φ (.inr k)) false ∗ dirAll (fun k => Φ (.inr k)) true) := by
  rw [bigSep_univ_sum, ← bigSep_own, bigSep_univ_eq_bigSepL [()] (by decide) (by decide) (fun u : Unit => Φ (.inl u)), bigSepL_singleton]
  rfl

/-! ## Cells and tokens -/

/-- All cells of all devices. -/
def ringCells : Finset (GSem nD τ sig) := Finset.univ.map ⟨kcell, kcell_inj⟩

/-- The duties of one device's cells: the barrier's two, a send's, a receive's. -/
abbrev Duty : Type := Bool ⊕ ((Bool × Hop) ⊕ (Bool × Hop))
/-- The cell and the side of a duty; -/
def dutyCell : Duty → Cell × Bool
  | .inl d => (.inl (), d)
  | .inr (.inl (a, j)) => (.inr (.inl (a, j)), false)
  | .inr (.inr (a, j)) => (.inr (.inr (a, j.1.succ, j.2)), false)
/-- different duties have different ones. -/
theorem dutyCell_inj : Function.Injective dutyCell := by
  rintro (d | ⟨a, j, s⟩ | ⟨a, j, s⟩) (d' | ⟨a', j', s'⟩ | ⟨a', j', s'⟩) h <;>
    simp only [dutyCell, Prod.mk.injEq, Sum.inl.injEq, Sum.inr.injEq, reduceCtorEq, false_and, true_and, and_true, Fin.succ_inj] at h
  · rw [h]
  · obtain ⟨rfl, rfl, rfl⟩ := h; rfl
  · obtain ⟨rfl, rfl, rfl⟩ := h; rfl
/-- The token of a device's duty; -/
def tokOf (ct : Dev nD × Duty) : GSem nD τ sig × ℕ × Bool := (kcell (ct.1, (dutyCell ct.2).1), 0, (dutyCell ct.2).2)
/-- different duties have different tokens. -/
theorem tokOf_inj : Function.Injective tokOf := by
  rintro ⟨c, t⟩ ⟨c', t'⟩ h
  have h1 := kcell_inj (congrArg Prod.fst h)
  obtain rfl : c = c' := congrArg Prod.fst h1
  obtain rfl : t = t' := dutyCell_inj (Prod.ext (congrArg Prod.snd h1) (congrArg (fun x => x.2.2) h))
  rfl
/-- All tokens. -/
def ringToks : Finset (GSem nD τ sig × ℕ × Bool) := Finset.univ.map ⟨tokOf, tokOf_inj⟩

/-- The ghost state at the launch. -/
def u₀ : UU := (initOf (Pipeline.cells cfgs cellOf_inj) (Pipeline.launchToks cfgs cellOf_inj), initOf ringCells ringToks)

/-- A barrier's token; a direction's tokens of a device's sends, and of its receives. -/
abbrev barTok (d : Bool) (c : Dev nD) : sProp 𝕄 := dutyTok ER (barCell c) 0 d
/-- The tokens of a device's send cells, -/
def sendToks (a : Bool) (c : Dev nD) : sProp 𝕄 := bigSep Finset.univ fun j : Hop => dutyTok ER (sendCell a c j) 0 false
/-- and of its receive cells. -/
def recvToks (a : Bool) (c : Dev nD) : sProp 𝕄 := bigSep Finset.univ fun j : Hop => dutyTok ER (recvCell a c j) 0 false

/-- The tokens minted with device `c`'s cells, -/
def toks (c : Dev nD) : sProp 𝕄 :=
  iprop((barTok false c ∗ barTok true c) ∗ (sendToks false c ∗ sendToks true c) ∗ recvToks false c ∗ recvToks true c)
/-- and those of the duties it performs. -/
def payToks (c : Dev nD) : sProp 𝕄 :=
  iprop((barTok false (next true c) ∗ barTok true (next false c)) ∗ (sendToks false c ∗ sendToks true c)
    ∗ recvToks false (next false c) ∗ recvToks true (next true c))

omit [FloatOps F] in
/-- A device's tokens, sorted by kind. -/
theorem toks_eq (c : Dev nD) : (bigSep Finset.univ fun t : Duty => dutyTok ER (tokOf (c, t)).1 (tokOf (c, t)).2.1 (tokOf (c, t)).2.2 : sProp 𝕄) = toks c := by
  rw [bigSep_univ_sum, bigSep_univ_sum (fun b : (Bool × Hop) ⊕ (Bool × Hop) => (dutyTok ER (tokOf (c, .inr b)).1 (tokOf (c, .inr b)).2.1 (tokOf (c, .inr b)).2.2 : sProp 𝕄)),
    bigSep_univ_prod, bigSep_univ_prod (fun b : Bool × Hop => (dutyTok ER (tokOf (c, .inr (.inr b))).1 (tokOf (c, .inr (.inr b))).2.1 (tokOf (c, .inr (.inr b))).2.2 : sProp 𝕄)),
    bigSep_bool, bigSep_bool, bigSep_bool]
  rfl

omit [FloatOps F] in
/-- Around the mesh the same tokens: each goes to the device that performs its duty. -/
theorem toks_around : (bigSep Finset.univ fun c : Dev nD => (toks c : sProp 𝕄)) ⊢ bigSep Finset.univ fun c : Dev nD => payToks c := by
  unfold toks payToks
  simp only [bigSep_sep']
  rw [bigSep_univ_equiv (nextE true) (fun c : Dev nD => (barTok false c : sProp 𝕄)), bigSep_univ_equiv (nextE false) (fun c : Dev nD => (barTok true c : sProp 𝕄)),
    bigSep_univ_equiv (nextE false) (fun c : Dev nD => (recvToks false c : sProp 𝕄)), bigSep_univ_equiv (nextE true) (fun c : Dev nD => (recvToks true c : sProp 𝕄))]
  exact BI.Entails.refl _

/-! ## The ghost state made and dealt -/

section Ghost

variable (V : Bool → Dev nD → Hop → Vec F S1x32x1024 .bf16)

/-- What the launch's element gives each device, -/
def G (c : Dev nD) : sProp 𝕄 :=
  iprop((bigSep Finset.univ fun k : Cell => roundState ER (sched V) (kcell (c, k)) 0)
    ∗ (bigSep Finset.univ fun k : Cell => iprop(atPos ER (kcell (c, k)) 0 ∅ 0 ∗ reached ER (kcell (c, k)) 0)) ∗ toks c)
/-- and what each has after the cells' invariants are made: the protocol's, its positions, the tokens it needs. -/
def G' (c : Dev nD) : sProp 𝕄 :=
  iprop(∃ K, records V K ∗ (bigSep Finset.univ fun k : Cell => atPos ER (kcell (c, k)) 0 ∅ 0) ∗ payToks c)

omit [FloatOps F] in
/-- The ghost state at the launch gives every device its share. -/
theorem fund_ring : BI.own (ER (initOf ringCells ringToks)) ⊢ (|==> bigSep Finset.univ (G V) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (sched V) ringCells ringToks) $$ HX with ⟨Hst, Hr, Hat, Htok⟩
  imodintro
  ihave Hst' := (Entails.of_eq (hX fun g => roundState ER (sched V) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- Of the semaphores that outlive the launch a device has its barrier's at zero; -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- of its own ones all four groups at zero, -/
theorem ownSems0_eq (c : Dev nD) :
    (Pipeline.ownSems0 (Ix := Unit) (Name := ℕ) (U := UU) (Lvl := ℕ) (Val := Elt F) (τ := τ) osem c : sProp 𝕄) = iprop(dirEnd false c ∗ dirEnd true c) := by
  unfold Pipeline.ownSems0; rw [bigSep_own]; rfl

omit [FloatOps F] in
/-- which together are all its cells at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [unscopedSems0_eq, ownSems0_eq, bigSep_cell]
  iintro ⟨HS, HB⟩
  isplitl [HB]; · iexact HB
  iexact HS

omit [FloatOps F] in
/-- A device's semaphores, all at zero, become its cells' invariants. -/
theorem core_alloc (c : Dev nD) :
    iprop(Pipeline.ownSems0 (Ix := Unit) (Name := ℕ) (U := UU) (Lvl := ℕ) (Val := Elt F) (τ := τ) osem c ∗ unscopedSems0 c ∗ G V c)
      ⊢ |={Set.univ}=> iprop((bigSep Finset.univ fun k : Cell => iprop(∃ κ : ℕ, cellInv ER (sched V) κ (kcell (c, k))))
          ∗ (bigSep Finset.univ fun k : Cell => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cell => semVal (kcell (c, k)) 0) ∗ bigSep Finset.univ fun k : Cell => roundState ER (sched V) (kcell (c, k)) 0)
      ⊢ (|={Set.univ}=> bigSep Finset.univ fun k : Cell => iprop(∃ κ : ℕ, cellInv ER (sched V) κ (kcell (c, k))) : sProp 𝕄) from by
        rw [← bigSep_sep']
        exact (bigSep_mono fun k _ => (Rounds.body_intro ER (sched V) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The devices' shares, grouped by the cell's owner, grouped by the one who pays instead. -/
theorem regroup :
    (bigSep Finset.univ fun c : Dev nD => iprop((bigSep Finset.univ fun k : Cell => iprop(∃ κ : ℕ, cellInv ER (sched V) κ (kcell (c, k))))
          ∗ (bigSep Finset.univ fun k : Cell => iprop(atPos ER (kcell (c, k)) 0 ∅ 0 ∗ reached ER (kcell (c, k)) 0)) ∗ toks c) : sProp 𝕄)
      ⊢ bigSep Finset.univ (G' V) := by
  rw [bigSep_sep', bigSep_sep', ← bigSep_univ_prod (fun ck : Dev nD × Cell => iprop(∃ κ : ℕ, cellInv ER (sched V) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  haveI := Classical.decEq (Dev nD × Cell)
  ihave HK := (BI.bigSep_exists_pi Finset.univ (fun (ck : Dev nD × Cell) (κ : ℕ) => (cellInv ER (sched V) κ (kcell ck) : sProp 𝕄))) $$ HI
  icases HK with ⟨%K, #HI⟩
  ihave Htk := (toks_around (F := F)) $$ Htok
  have hc (c : Dev nD) : iprop(records V K ∗ ((bigSep Finset.univ fun k : Cell => atPos ER (kcell (c, k)) 0 ∅ 0) ∗ payToks c)) ⊢ G' V c := by
    unfold G'
    iintro H
    iexists K; iexact H
  iapply (BI.bigSep_with_persistent (R := records V K) fun c _ => hc c)
  isplitr
  · unfold records
    isplitr; · iexact HI
    iexact HR
  rw [bigSep_sep']
  isplitl [Hat]; · iexact Hat
  iexact Htk

omit [FloatOps F] in
/-- The step over the whole mesh: every device's semaphores at once. -/
theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

end Ghost

/-! ## The credit at launch -/

/-- When two receive cells are the same one, -/
theorem recvCell_eq {a a' : Bool} {c c' : Dev nD} {j j' : Hop} : Iff (recvCell a c j = recvCell a' c' j') (a = a' ∧ c = c' ∧ j = j') := by
  constructor
  · intro h
    have h1 := kcell_inj h
    simp only [Prod.mk.injEq, Sum.inr.injEq, Fin.succ_inj] at h1
    exact ⟨h1.2.1, h1.1, Prod.ext h1.2.2.1 h1.2.2.2⟩
  · rintro ⟨rfl, rfl, rfl⟩; rfl
/-- when two barrier cells are, -/
theorem barCell_eq {c c' : Dev nD} : Iff (barCell c = barCell c') (c = c') :=
  ⟨fun h => congrArg Prod.fst (kcell_inj h), fun h => h ▸ rfl⟩
/-- and that a barrier cell is no receive cell. -/
theorem bar_ne_recv (a : Bool) (c c' : Dev nD) (j : Hop) : barCell c ≠ recvCell a c' j := fun h => by
  have h1 := congrArg Prod.snd (kcell_inj h)
  cases h1

/-- A neighbour seen from the other end. -/
theorem next_eq {a : Bool} {c d : Dev nD} : Iff (c = next a d) (d = next (!a) c) :=
  ⟨fun h => by rw [h, next_next'], fun h => by rw [h, next_next]⟩

/-- A direction owes a receive cell exactly if the device is the one that sends there; -/
theorem owedDir_recv (a' a : Bool) (d c : Dev nD) (j : Hop) :
    owedDir a' d 0 (recvCell a c j) () = if a' = a then (if d = next (!a) c then N else 0) else 0 := by
  unfold owedDir
  rw [Finset.sum_apply, Finsupp.finset_sum_apply]
  by_cases h : a' = a
  · subst h
    rw [if_pos rfl, Finset.sum_eq_single j]
    · rw [if_neg (Nat.not_lt_zero _), tallyAt_apply]
      by_cases h : d = next (!a') c
      · rw [if_pos h, if_pos ⟨recvCell_eq.mpr ⟨rfl, next_eq.mpr h, rfl⟩, rfl⟩]
      · rw [if_neg h, if_neg fun h' => h (next_eq.mp (recvCell_eq.mp h'.1).2.1)]
    · intro j' _ hj
      rw [if_neg (Nat.not_lt_zero _), tallyAt_apply, if_neg fun h' => hj (recvCell_eq.mp h'.1).2.2.symm]
    · exact fun hj => absurd (Finset.mem_univ j) hj
  · rw [if_neg h]
    refine Finset.sum_eq_zero fun j' _ => ?_
    rw [if_neg (Nat.not_lt_zero _), tallyAt_apply, if_neg fun h' => h (recvCell_eq.mp h'.1).1.symm]
/-- no barrier. -/
theorem owedDir_bar (a : Bool) (d c : Dev nD) : owedDir a d 0 (barCell c) () = 0 := by
  by_contra h
  obtain ⟨j, -, hj⟩ := owedDir_pos (Nat.pos_of_ne_zero h)
  exact bar_ne_recv _ _ _ _ hj

/-- What one signal adds at a barrier cell, -/
theorem tally_bar (a : Bool) (d c : Dev nD) : (tallyAt (barCell (next a d)) () 1 : CellTallies nD τ sig Unit) (barCell c) () = if d = next (!a) c then 1 else 0 := by
  rw [tallyAt_apply]
  by_cases h : d = next (!a) c
  · rw [if_pos h, if_pos ⟨barCell_eq.mpr (next_eq.mpr h), rfl⟩]
  · rw [if_neg h, if_neg fun h' => h (next_eq.mp (barCell_eq.mp h'.1))]
/-- and that it adds nothing at a receive cell. -/
theorem tally_recv (b a : Bool) (d c : Dev nD) (j : Hop) : (tallyAt (barCell d) () 1 : CellTallies nD τ sig Unit) (recvCell a c j) () = 0 := by
  rw [tallyAt_apply, if_neg fun h' => bar_ne_recv _ _ _ _ h'.1.symm]

/-- What a device owes at the launch to a barrier cell, -/
theorem owed_bar (d c : Dev nD) : O₀ d (barCell c) () = (if d = next true c then 1 else 0) + (if d = next false c then 1 else 0) := by
  unfold O₀ owed
  simp only [Pi.add_apply, Finsupp.add_apply]
  rw [owedDir_bar, owedDir_bar, tally_bar, tally_bar]
  simp only [Nat.zero_add, Bool.not_true, Bool.not_false]
/-- and to a receive cell. -/
theorem owed_recv (a : Bool) (d c : Dev nD) (j : Hop) : O₀ d (recvCell a c j) () = if d = next (!a) c then N else 0 := by
  unfold O₀ owed
  simp only [Pi.add_apply, Finsupp.add_apply]
  rw [owedDir_recv, owedDir_recv, tally_recv false, tally_recv false]
  cases a <;> simp only [if_true, if_false, Nat.zero_add, Nat.add_zero, Bool.true_eq_false, Bool.false_eq_true]

/-- All devices together owe a barrier cell two units, -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (next true c) fun _ => 1, Finset.sum_ite_eq' Finset.univ (next false c) fun _ => 1, if_pos (Finset.mem_univ _), if_pos (Finset.mem_univ _)]
/-- and a receive cell one copy's credit. -/
theorem launch_recv (a : Bool) (c : Dev nD) (j : Hop) :
    tallyOn (recvCell a c j) (launchCredit (Pipeline.owing O₀) 0 (recvCell a c j)) = (tallyAt (recvCell a c j) () N : CellTallies nD τ sig Unit) := by
  unfold tallyAt; refine congrArg _ (Finsupp.ext fun u => ?_); cases u
  rw [Pipeline.launchCredit_owing, Finsupp.single_eq_same, Finset.sum_congr rfl fun d _ => owed_recv a d c j, Finset.sum_ite_eq' Finset.univ (next (!a) c) fun _ => N,
    if_pos (Finset.mem_univ _)]

/-- The claims to what a direction's receives are owed. -/
def recvCreds (a : Bool) (c : Dev nD) : sProp 𝕄 := bigSep Finset.univ fun j : Hop => cred (tallyAt (recvCell a c j) () N)

omit [FloatOps F] in
/-- A device has claims to the barrier's two units and to every transfer to it. -/
theorem creds (c : Dev nD) :
    (Pipeline.launchCred O₀ c : sProp 𝕄) ⊢ iprop(cred (tallyAt (barCell c) () 2) ∗ recvCreds false c ∗ recvCreds true c) := by
  have hsub : (Pipeline.launchCred O₀ c : sProp 𝕄)
      ⊢ bigSep (Finset.univ.map ⟨csem, csem_inj⟩) fun sm : SemLoc sig => cred (tallyOn ((c.tc : Thread nD τ), sm) (launchCredit (Pipeline.owing O₀) 0 ((c.tc : Thread nD τ), sm))) := by
    unfold Pipeline.launchCred
    exact bigSep_subset (Finset.subset_univ _)
  refine hsub.trans ?_
  rw [bigSep_map, bigSep_cell]
  show iprop(cred (tallyOn (barCell c) (launchCredit (Pipeline.owing O₀) 0 (barCell c)))
    ∗ dirAll (fun k => cred (tallyOn (kcell (c, .inr k)) (launchCredit (Pipeline.owing O₀) 0 (kcell (c, .inr k))))) false
    ∗ dirAll (fun k => cred (tallyOn (kcell (c, .inr k)) (launchCredit (Pipeline.owing O₀) 0 (kcell (c, .inr k))))) true) ⊢ _
  have hd (a : Bool) : (dirAll (fun k => cred (tallyOn (kcell (c, .inr k)) (launchCredit (Pipeline.owing O₀) 0 (kcell (c, .inr k))))) a : sProp 𝕄) ⊢ recvCreds a c := by
    unfold dirAll recvCreds
    have he : (bigSep Finset.univ fun j : Hop => cred (tallyOn (recvCell a c j) (launchCredit (Pipeline.owing O₀) 0 (recvCell a c j))) : sProp 𝕄)
        ⊢ bigSep Finset.univ fun j : Hop => cred (tallyAt (recvCell a c j) () N) :=
      bigSep_mono fun j _ => by rw [launch_recv]; exact BI.Entails.refl _
    iintro ⟨-, H, -⟩
    iapply he; iexact H
  rw [launch_bar]
  exact sep_mono_right (BI.sep_mono (hd false) (hd true))

end Cert.RingProof

end
-- ==== Proof.Run.lean ====
/-
  The run of the whole program on the sixteen devices: from any memory with all counters at zero, every execution ends,
  with the arguments as they were, every counter at zero again, and each device's result array at `outV`, for any float
  values.
-/
module

public import proofs.«01_k».proof.Proof.Deal
public import proofs.«01_k».proof.Proof.Gen.KernelIdeal.Points
public import Idealize.ShloMosaic.Lib.Pipeline.CollectiveSegs

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at launch. -/
def s₀ : MemSt nD τ sig (Elt F) := ⟨m, fun _ => 0, ρ⟩

/-- A device's block of `x` and of `w`, as the call reads them. -/
def xAt (c : Dev nD) : Vec F S2048x128 .f32 := (win0_0.blk (0 : Fin 1)).view.read (Elt F) ((s₀ m ρ).mem ((c : Thread nD τ).loc main_arg0))
/-- and of `w`. -/
def wAt (c : Dev nD) : Vec F S128x2048 .f32 := (win0_1.blk (0 : Fin 1)).view.read (Elt F) ((s₀ m ρ).mem ((c : Thread nD τ).loc main_arg1))

/-- What a device starts its body with, but its buffers. -/
def start (c : Dev nD) : sProp 𝕄 :=
  iprop(G' (sentV (xAt m ρ) (wAt m ρ)) c ∗ (cred (tallyAt (barCell c) () 2) ∗ recvCreds false c ∗ recvCreds true c) ∗ levAts L lv)

/-- Its scratch buffers, whatever they hold. -/
def scratch (c : Dev nD) : sProp 𝕄 :=
  iprop((∃ f : Buf (Elt F) ((c : Thread nD τ).loc cc0_scratch0), pts c cc0_scratch0 f) ∗ (∃ f : Buf (Elt F) ((c : Thread nD τ).loc cc0_scratch1), pts c cc0_scratch1 f)
    ∗ ∃ f : Buf (Elt F) ((c : Thread nD τ).loc cc0_scratch2), pts c cc0_scratch2 f)

/-- What a device has before the kernel's body, -/
def Φ₀ (c : Dev nD) : sProp 𝕄 := iprop(start m ρ c ∗ scratch c)
/-- and after it. -/
def Φ₁ (c : Dev nD) : sProp 𝕄 := iprop(semVal (barCell c) 0 ∗ (dirEnd false c ∗ dirEnd true c) ∗ scratch c)

/-- The call: its arrays as at launch, its windows' staging buffers after the body, and around the body what is held and owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => wAt m ρ c
    | ⟨2, _⟩ => outV (xAt m ρ) (wAt m ρ) c
    | ⟨_ + 3, h⟩ => absurd h (Nat.not_lt.2 (Nat.le_add_left _ _))
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The body -/

/-- The share at launch is the body's start. -/
theorem start_dev (c : Dev nD) : start m ρ c ⊢ iprop(∃ K, devStart (xAt m ρ) (wAt m ρ) K c) := by
  unfold start G' payToks recvCreds sendToks recvToks
  iintro ⟨⟨%K, #HR, Hat, ⟨HbF, HbT⟩, ⟨HsF, HsT⟩, HrF, HrT⟩, ⟨Hc, HcF, HcT⟩, Hlev⟩
  ihave Hat' := (Entails.of_eq (bigSep_cell fun k : Cell => (atPos ER (kcell (c, k)) 0 ∅ 0 : sProp 𝕄))) $$ Hat
  unfold dirAll
  icases Hat' with ⟨HaB, ⟨HaF1, HaF2, HaF3⟩, HaT1, HaT2, HaT3⟩
  iexists K
  unfold devStart dirStart recvP
  isplitr; · iexact HR
  isplitl [Hlev]; · iexact Hlev
  isplitl [HaB]; · iexact HaB
  isplitl [Hc]; · iexact Hc
  isplitl [HbF]; · iexact HbF
  isplitl [HbT]; · iexact HbT
  rw [bigSep_sep', bigSep_sep']
  isplitl [HrF HsF HaF1 HaF2 HaF3 HcF]
  · isplitl [HrF]; · iexact HrF
    isplitl [HsF]; · iexact HsF
    isplitl [HaF2 HcF]
    · isplitl [HaF2]; · iexact HaF2
      iexact HcF
    isplitl [HaF1]; · iexact HaF1
    iexact HaF3
  · isplitl [HrT]; · iexact HrT
    isplitl [HsT]; · iexact HsT
    isplitl [HaT2 HcT]
    · isplitl [HaT2]; · iexact HaT2
      iexact HcT
    isplitl [HaT1]; · iexact HaT1
    iexact HaT3

/-- The only point of the grid. -/
abbrev t₀ : Fin cfg0.N := t0_0

omit [FloatOps F] in
/-- To own a whole buffer's window is to own the buffer. -/
theorem owns_whole (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) ((c : Thread nD τ).loc b), ⌜f = Y⌝ ∗ pts c b f) := by
  unfold owns; simp only [Memref.view_whole, View.read_whole, View.set_whole]

/-- A staging buffer holding `Y`. -/
abbrev stg (c : Dev nD) (b : Ref sig .tc) (Y : b.ty.Contents (Elt F)) : sProp 𝕄 :=
  iprop(∃ f : Buf (Elt F) ((c : Thread nD τ).loc b), ⌜f = Y⌝ ∗ pts c b f)

set_option maxRecDepth 4000 in
/-- What the body starts with, -/
def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ ∃ d, stg c cc0_stg2_0 ((dats m ρ 0 c).before (2 : Fin 3) t₀ d))
/-- and what it ends with. -/
def bodyPost (c : Dev nD) : sProp 𝕄 :=
  iprop(Φ₁ c ∗ (dats m ρ 0 c).owesAt () t₀.succ ∗ stg c cc0_stg0_0 (xAt m ρ c) ∗ stg c cc0_stg1_0 (wAt m ρ c)
    ∗ stg c cc0_stg2_0 (outV (xAt m ρ) (wAt m ρ) c))

/-- The body finds the device's block of `x`, -/
theorem before_x (c : Dev nD) (d) : (dats m ρ 0 c).before (0 : Fin 3) t₀ d = xAt m ρ c := by
  unfold Dat.before; rw [if_pos (fetch0_0 t₀)]; rfl
/-- and of `w`. -/
theorem before_w (c : Dev nD) (d) : (dats m ρ 0 c).before (1 : Fin 3) t₀ d = wAt m ρ c := by
  unfold Dat.before; rw [if_pos (fetch0_1 t₀)]; rfl

set_option maxRecDepth 4000 in
/-- The body takes the one to the other. -/
theorem sound (c : Dev nD) : bodyPre m ρ c ⊢ runs c
    (cc0_body xM (Memref.isWhole_whole _) wM (Memref.isWhole_whole _) oM (Memref.isWhole_whole _)
      (Memref.whole cc0_scratch0) (Memref.isWhole_whole _) (Memref.whole cc0_scratch1) (Memref.isWhole_whole _) pM (Memref.isWhole_whole _)
      cc0_scratch3 cc0_scratch4 cc0_scratch5 cc0_scratch6) (fun _ => bodyPost m ρ c) := by
  rw [body_eq]
  unfold runs
  rw [wp_deviceId]
  unfold bodyPre Φ₀ scratch Dat.owesAt Pipeline.owesWithin
  rw [show (dats m ρ 0 c).owed t₀.castSucc = O₀ c from rfl]
  simp only [before_x, before_w]
  iintro ⟨⟨Hs, ⟨%f0, Hb0⟩, ⟨%f1, Hb1⟩, ⟨%fp, Hp⟩⟩, ⟨%Wt, -, HO⟩, ⟨%d0, %fx, %hx, Hx⟩, ⟨%d1, %fw, %hw, Hw⟩, ⟨%d2, %fo, %ho, Ho⟩⟩
  subst hx; subst hw
  ihave Hs' := (start_dev m ρ c) $$ Hs
  icases Hs' with ⟨%K, Hs⟩
  have hrun := runs_body (xAt m ρ) (wAt m ρ) K c (fun a => match a with | false => f0 | true => f1) fp fo
  iapply (wp_wand frame _ Set.univ) $$ [Hs Hb0 Hb1 Hp HO Hx Hw Ho]
  · iapply hrun
    isplitl [Hs]; · iexact Hs
    isplitr [HO]
    · unfold devBufs
      isplitl [Hb0]; · iexact Hb0
      isplitl [Hb1]; · iexact Hb1
      isplitl [Hp]; · iexact Hp
      isplitl [Ho]; · iexact Ho
      isplitl [Hx]; · iexact Hx
      iexact Hw
    unfold owing
    iexists Wt; iexact HO
  · unfold devEnd owing bodyPost Φ₁ scratch Dat.owesAt Pipeline.owesWithin
    rw [show (dats m ρ 0 c).owed t₀.succ = 0 from rfl]
    iintro %u ⟨HzB, ⟨HdF, ⟨%g0, Hb0⟩⟩, ⟨HdT, ⟨%g1, Hb1⟩⟩, ⟨%gp, Hp⟩, Ho, Hx, Hw, ⟨%W', HO⟩⟩
    isplitl [HzB HdF HdT Hb0 Hb1 Hp]
    · isplitl [HzB]; · iexact HzB
      isplitl [HdF HdT]
      · isplitl [HdF] <;> iassumption
      isplitl [Hb0]; · (iexists g0; iexact Hb0)
      isplitl [Hb1]; · (iexists g1; iexact Hb1)
      iexists gp; iexact Hp
    isplitl [HO]
    · iexists W'
      isplitr; · ipureintro; exact fun _ _ => Or.inl trivial
      iexact HO
    isplitl [Hx]
    · iexists _; isplitr; · (ipureintro; rfl)
      iexact Hx
    isplitl [Hw]
    · iexists _; isplitr; · (ipureintro; rfl)
      iexact Hw
    iexists _; isplitr; · (ipureintro; rfl)
    iexact Ho

set_option maxRecDepth 100000 in
/-- The body meets its obligation on every device. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  exact sound m ρ c

/-! ## The launch's side conditions -/

/-- The semaphores of the staging copies are the first three, -/
theorem stage_val : ∀ (w : Fin 3) (s : Fin (spec0 w).nbuf), ((spec0 w).sem s).val < 3 := by decide +kernel
/-- the ring's own are the launch's scratch, -/
theorem own_scoped (k : Own) : (osem k).isScoped .tc = true := by
  revert k; decide +kernel
/-- and none is a staging copy's; -/
theorem own_disj (k : Own) (w : Fin 3) (s : Fin (spec0 w).nbuf) : osem k ≠ .dma ((spec0 w).sem s) := fun h => by
  have h1 := congrArg Fin.val (SemLoc.dma.inj h)
  have h2 := stage_val w s
  rw [ownSem_val] at h1
  rcases k with ⟨a, j⟩ | ⟨a, j⟩ <;> dsimp only at h1 <;> omega

/-- all that the launch asks of them. -/
theorem ownSemFacts : Pipeline.OwnSemFacts cfg0.spec osem := ⟨own_scoped, osem_inj, own_disj⟩

/-- The arrays are owned wholly. -/
theorem share_eq (c : Dev nD) (w : Fin cfg0.W) : (dats m ρ 0 c).share w = fullShare := by unfold Dat.share; split <;> rfl

/-- What the launch leaves a device with is what it starts with; -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (sentV (xAt m ρ) (wAt m ρ)) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

/-- with the scratch buffers it is what the body wants. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- After the body the scratch goes back, every semaphore at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  exact BI.Entails.refl _

/-- The staging buffers' own semaphores are none of the ring's; -/
theorem stage_sem (w : Fin 3) (s : Fin (spec0 w).nbuf) (k : Cell) : SemLoc.dma ((spec0 w).sem s) ≠ csem k := by
  rcases k with u | k
  · exact fun h => by cases h
  · exact fun h => ownSemFacts.disj k w s h.symm
/-- so they are at the lowest level. -/
theorem stage_lv (c : Dev nD) (w : Fin 3) (s : Fin (spec0 w).nbuf) : lv ((c : Thread nD τ), SemLoc.dma ((spec0 w).sem s)) () = 0 := by
  unfold lv
  rcases h : dec (SemLoc.dma ((spec0 w).sem s)) with _ | k
  · rfl
  · exact absurd (dec_some h) (stage_sem w s k)

/-- What is owed at the launch is above level 0, -/
theorem above_O₀ (c : Dev nD) : Above 0 (O₀ c) :=
  (((above_owedDir (by omega) _ _).add (above_owedDir (by omega) _ _)).add (above_bar (by omega) _)).add (above_bar (by omega) _)

/-- so the staging copies may be waited for. -/
theorem waits (c : Dev nD) : (levAts L lv : sProp 𝕄) ⊢ Pipeline.cellsWaits cfgs (dats m ρ) () 0 c :=
  Pipeline.cellsWaits_intro cfgs (dats m ρ) () 0 c fun w s t =>
    mayWait c _ (n := 0) (le_of_eq (stage_lv c w s)) (by
      rcases t with ⟨_ | _, ht⟩
      · exact above_O₀ c
      · exact above_zero 0)

/-! ## The run -/

/-- A window's array after the run. -/
def finalA (c : Dev nD) (w : Fin cfg0.W) : Buf (Elt F) ((cfg0.win w).arr.view.loc (c : Thread nD τ)) := (dats m ρ 0 c).arrAt w cfg0.N

/-- How a run ends: each array at its final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On the sixteen devices, for any float values, from any memory with zero counters: every weakly fair execution ends,
    every final state has each window's array at `finalA`, and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (sentV (xAt m ρ) (wAt m ρ))) (G' := G' (sentV (xAt m ρ) (wAt m ρ))) (u₀ := u₀)
    (hu₀ := by
      unfold u₀
      iintro Hu
      ihave H := (ownU_pair _ _) $$ Hu
      icases H with ⟨HP, HX⟩
      imod (fund_ring (sentV (xAt m ρ) (wAt m ρ))) $$ HX with HG
      imodintro
      isplitl [HP] <;> iassumption)
    (hglob := glob _)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments are as they were; -/
theorem finalA_x (c : Dev nD) : finalA m ρ c (0 : Fin 3) = m ((c : Thread nD τ).loc main_arg0) := (dats (F := F) m ρ 0 c).arrAt_in (0 : Fin 3) rfl _
/-- both of them. -/
theorem finalA_w (c : Dev nD) : finalA m ρ c (1 : Fin 3) = m ((c : Thread nD τ).loc main_arg1) := (dats (F := F) m ρ 0 c).arrAt_in (1 : Fin 3) rfl _

end Cert.RingProof

end
-- ==== Proof.Chain.lean ====
/-
  The way of a stripe sum backwards: from the device that keeps it, device by device against the direction it travels. Over
  sixteen devices this meets each device once, and on the way every device adds the rows that the last one keeps.
-/
module

public import proofs.«01_k».proof.Proof.Values

@[expose] public section

noncomputable section

namespace Cert.RingProof

open Cert.KernelIdeal Cert.KernelIdeal.Gen
open Idealize.ShloMosaic
open Idealize.ShloMosaic.TcCoe

/-- The device `k` steps before `t` in direction `a`. -/
def back (a : Bool) : ℕ → Dev nD → Dev nD
  | 0, t => t
  | k + 1, t => next (!a) (back a k t)

/-- A device's place on the ring. -/
def place (c : Dev nD) : ℕ :=
  ![0, 7, 8, 15, 1, 6, 9, 14, 2, 5, 10, 13, 3, 4, 11, 12] c

/-- What one step back does to the place, modulo sixteen. -/
def stepBack : Bool → ℕ
  | false => 15
  | true => 1

/-- One step back, in terms of the place. -/
theorem place_next (a : Bool) (c : Dev nD) : place (next (!a) c) = (place c + stepBack a) % 16 := by
  revert a c; decide +kernel

/-- Different devices have different places. -/
theorem place_inj {c d : Dev nD} (h : place c = place d) : c = d := by
  revert c d; decide +kernel

/-- The place `k` steps back. -/
theorem place_back (a : Bool) (k : ℕ) (t : Dev nD) : place (back a (k + 1) t) = (place t + (k + 1) * stepBack a) % 16 := by
  induction k with
  | zero => rw [back, place_next, back, Nat.zero_add, Nat.one_mul]
  | succ k ih => rw [back, place_next, ih, Nat.add_mul (k + 1) 1]; omega

/-- The same for any number of steps, modulo sixteen. -/
theorem place_back' (a : Bool) (k : ℕ) (t : Dev nD) : place (back a k t) % 16 = (place t + k * stepBack a) % 16 := by
  cases k with
  | zero => rw [back, Nat.zero_mul, Nat.add_zero]
  | succ k => rw [place_back, Nat.mod_mod]

/-- Sixteen steps back meet every device exactly once. -/
theorem back_bijective (a : Bool) (t : Dev nD) : Function.Bijective (fun k : Fin 16 => back a k.val t) := by
  refine (Fintype.bijective_iff_injective_and_card _).mpr ⟨fun k l h => ?_, by decide⟩
  have h' := congrArg (fun c => place c % 16) (show back a k.val t = back a l.val t from h)
  simp only [place_back'] at h'
  have := k.isLt; have := l.isLt
  apply Fin.ext
  cases a
  · have e : stepBack false = 15 := rfl
    rw [e] at h'; omega
  · have e : stepBack true = 1 := rfl
    rw [e] at h'; omega

/-- A sum along the way back is the sum over all devices. -/
theorem sum_back {M : Type} [AddCommMonoid M] (a : Bool) (t : Dev nD) (f : Dev nD → M) :
    ∑ k ∈ Finset.range 16, f (back a k t) = ∑ d : Dev nD, f d := by
  rw [Finset.sum_range]
  exact Fintype.sum_bijective _ (back_bijective a t) _ _ fun _ => rfl

/-- Fifteen steps back is where the sum for `t` starts: with the rows that `t` keeps; -/
theorem off1_back (t : Dev nD) (s : Fin 4) : k0_off1 (back false 15 t) (BitVec.ofNat 32 (32 * s.val)) = ![128 * t.val + 32 * s.val, 0] := by
  revert t s; decide +kernel
/-- the same in the other direction; -/
theorem off2_back (t : Dev nD) (s : Fin 4) : k0_off2 (back true 15 t) (BitVec.ofNat 32 (32 * s.val)) = ![128 * t.val + 32 * s.val, 0] := by
  revert t s; decide +kernel

/-- and on the way each device adds the same rows of its own product. -/
theorem off3_back (t : Dev nD) (h : Fin 14) (s : Fin 4) :
    k0_off3 (back false (14 - h.val) t) (BitVec.ofNat 32 (1 + h.val)) (BitVec.ofNat 32 (32 * s.val)) = ![128 * t.val + 32 * s.val, 0] := by
  revert t h s; decide +kernel
/-- the same in the other direction, for the right half of the columns. -/
theorem off4_back (t : Dev nD) (h : Fin 14) (s : Fin 4) :
    k0_off4 (back true (14 - h.val) t) (BitVec.ofNat 32 (1 + h.val)) (BitVec.ofNat 32 (32 * s.val)) = ![128 * t.val + 32 * s.val, 1024] := by
  revert t h s; decide +kernel

end Cert.RingProof

end
-- ==== Proof.Algebra.lean ====
/-
  Over the extended reals: what a stripe holds after each hop is the sum of the devices' partial products met so far, and a
  device's block of the result is relu of the sum over all of them.
-/
module

public import proofs.«01_k».proof.Proof.Chain
public import Idealize.ShloMosaic.Lib.Pointwise

@[expose] public section

noncomputable section

namespace Cert.RingProof

open Cert.KernelIdeal Cert.KernelIdeal.Gen
open Idealize.ShloMosaic
open Idealize.ShloMosaic.TcCoe

variable (X : Dev nD → Vec Ideal S2048x128 .f32) (W : Dev nD → Vec Ideal S128x2048 .f32)

/-- Device `d`'s part of the product at row `i`, column `j`: the sum over its 128 columns of `x`. -/
def dot (d : Dev nD) (i j : Fin 2048) : EReal := ∑ k : Fin 128, (X d (ix2 i k) : EReal) * (W d (ix2 k j) : EReal)

/-- Row `r` of stripe `s` of what device `t` keeps. -/
def row (t : Dev nD) (s : Fin 4) (r : Fin 32) : Fin 2048 :=
  ⟨128 * t.val + 32 * s.val + r.val, by have h : t.val < 16 := t.isLt; have := s.isLt; have := r.isLt; omega⟩
/-- Column `q` of a direction's half. -/
def col (a : Bool) (q : Fin 1024) : Fin 2048 :=
  ⟨1024 * (half a).val + q.val, by have := (half a).isLt; have := q.isLt; omega⟩

/-- A partial product, element by element. -/
theorem prod_apply (c : Dev nD) (i j : Fin 2048) : prod X W c (ix2 i j) = dot X W c i j := by
  unfold prod dot
  pointwise [k0_pay10]

/-- The first stripe sum that is stored: the product of the rows and columns read. -/
theorem pay1_apply (A : Vec Ideal S32x128 .f32) (B : Vec Ideal S128x1024 .f32) (r : Fin 32) (q : Fin 1024) :
    k0_pay1 A B (ix3 0 r q) = ∑ k : Fin 128, (A (ix2 r k) : EReal) * (B (ix2 k q) : EReal) := by
  pointwise [k0_pay1]

/-- A later stripe sum: what arrived and the device's own part, added; the casts to and from bf16 change nothing here. -/
theorem pay11_apply (v : Vec Ideal S1x32x1024 .bf16) (p : Vec Ideal S32x1024 .f32) (r : Fin 32) (q : Fin 1024) :
    k0_pay11 v p (ix3 0 r q) = ((v (ix3 0 r q) : EReal) + (p (ix2 r q) : EReal) : EReal) := by
  pointwise [k0_pay11]

/-- The stripe of the result: what arrived and the device's own part, added, and relu of it. -/
theorem pay140_apply (v : Vec Ideal S1x32x1024 .bf16) (p : Vec Ideal S32x1024 .f32) (r : Fin 32) (q : Fin 1024) :
    k0_pay140 v p (ix2 r q) = max ((v (ix3 0 r q) : EReal) + (p (ix2 r q) : EReal)) 0 := by
  pointwise [k0_pay140]

/-- What a read of 32 rows of `x` gives, -/
theorem rdX_apply (o : ℕ) (off : Fin 2 → ℕ) (ho) (e : off = ![o, 0]) (f : Vec Ideal S2048x128 .f32) (r : Fin 32) (k : Fin 128) (i : Fin 2048)
    (hi : i.val = o + r.val) : rdX off ho f (ix2 r k) = f (ix2 i k) := by
  subst e
  refine congrArg f ?_
  funext d
  match d with
  | ⟨0, _⟩ => exact Fin.ext (show o + 1 * r.val = i.val by omega)
  | ⟨1, _⟩ => exact Fin.ext (show 0 + 1 * k.val = k.val by omega)

/-- of half the columns of `w`, -/
theorem rdW_apply (a : Bool) (f : Vec Ideal S128x2048 .f32) (k : Fin 128) (q : Fin 1024) :
    rdW (half a) f (ix2 k q) = f (ix2 k (col a q)) := by
  refine congrArg f ?_
  funext d
  match d with
  | ⟨0, _⟩ => exact Fin.ext (show 0 + 1 * k.val = k.val by omega)
  | ⟨1, _⟩ => exact Fin.ext (show 1024 * (half a).val + 1 * q.val = 1024 * (half a).val + q.val by omega)

/-- and of a stripe of the product. -/
theorem rdP_apply (a : Bool) (o : ℕ) (off : Fin 2 → ℕ) (ho) (e : off = ![o, 1024 * (half a).val]) (f : Vec Ideal S2048x2048 .f32) (r : Fin 32) (q : Fin 1024)
    (i : Fin 2048) (hi : i.val = o + r.val) : rdP off ho f (ix2 r q) = f (ix2 i (col a q)) := by
  subst e
  refine congrArg f ?_
  funext d
  match d with
  | ⟨0, _⟩ => exact Fin.ext (show o + 1 * r.val = i.val by omega)
  | ⟨1, _⟩ => exact Fin.ext (show 1024 * (half a).val + 1 * q.val = 1024 * (half a).val + q.val by omega)

/-- The first device on the way to `t` sends its part, -/
theorem first_apply (a : Bool) (t : Dev nD) (s : Fin 4) (r : Fin 32) (q : Fin 1024) :
    firstV X W a (back a 15 t) s (ix3 0 r q) = dot X W (back a 15 t) (row t s r) (col a q) := by
  cases a
  · refine (pay1_apply _ _ r q).trans (Finset.sum_congr rfl fun k _ => ?_)
    rw [rdX_apply _ _ _ (off1_back t s) _ r k (row t s r) rfl]
    exact congrArg _ (rdW_apply false _ k q)
  · refine (pay1_apply _ _ r q).trans (Finset.sum_congr rfl fun k _ => ?_)
    rw [rdX_apply _ _ _ (off2_back t s) _ r k (row t s r) rfl]
    exact congrArg _ (rdW_apply true _ k q)

/-- each later one adds its own, -/
theorem part_apply (a : Bool) (t : Dev nD) (h : Fin 14) (s : Fin 4) (r : Fin 32) (q : Fin 1024) (P : Vec Ideal S2048x2048 .f32) :
    partV a (back a (14 - h.val) t) h s P (ix2 r q) = P (ix2 (row t s r) (col a q)) := by
  cases a
  · exact rdP_apply false _ _ _ (off3_back t h s) _ r q (row t s r) rfl
  · exact rdP_apply true _ _ _ (off4_back t h s) _ r q (row t s r) rfl

/-- and so does `t` itself. -/
theorem last_apply (a : Bool) (t : Dev nD) (s : Fin 4) (r : Fin 32) (q : Fin 1024) (P : Vec Ideal S2048x2048 .f32) :
    lastP a t s P (ix2 r q) = P (ix2 (row t s r) (col a q)) := by
  cases a
  · exact rdP_apply false _ _ _ (k0_off5_eq t s) _ r q (row t s r) rfl
  · exact rdP_apply true _ _ _ (k0_off6_eq t s) _ r q (row t s r) rfl

/-- After `n` hops the sum on its way to `t` is that of the `n + 1` devices it has met. -/
theorem val_apply (a : Bool) (t : Dev nD) (s : Fin 4) (r : Fin 32) (q : Fin 1024) (n : ℕ) (hn : n ≤ 14) :
    val X W a n (back a (15 - n) t) s (ix3 0 r q)
      = ∑ k ∈ Finset.range (n + 1), dot X W (back a (15 - n + k) t) (row t s r) (col a q) := by
  induction n with
  | zero => rw [Finset.sum_range_one]; exact first_apply X W a t s r q
  | succ n ih =>
    have e : 15 - n = 15 - (n + 1) + 1 := by omega
    have e' : 15 - (n + 1) = 14 - (Fin.ofNat 14 n).val := by
      have : (Fin.ofNat 14 n).val = n := Nat.mod_eq_of_lt (by omega)
      rw [this]; omega
    have hp := part_apply a t (Fin.ofNat 14 n) s r q (prod X W (back a (15 - (n + 1)) t))
    rw [← e'] at hp
    have hv := ih (by omega)
    rw [Finset.sum_range_succ', val, pay11_apply, hp, prod_apply, Nat.add_zero]
    refine congrArg (· + dot X W (back a (15 - (n + 1)) t) (row t s r) (col a q)) ?_
    rw [e] at hv
    refine hv.trans (Finset.sum_congr rfl fun k _ => ?_)
    rw [Nat.add_assoc, Nat.add_comm 1 k]

/-- What a direction leaves on `t`: relu of the sum over all devices. -/
theorem lastV_apply (a : Bool) (t : Dev nD) (s : Fin 4) (r : Fin 32) (q : Fin 1024) :
    lastV X W a t s (ix2 r q) = max (∑ d : Dev nD, dot X W d (row t s r) (col a q)) 0 := by
  have hv := val_apply X W a t s r q 14 le_rfl
  have hs := sum_back a t fun d => dot X W d (row t s r) (col a q)
  unfold lastV sentV
  rw [pay140_apply, last_apply, prod_apply, ← hs, Finset.sum_range_succ']
  refine congrArg (fun z : EReal => max (z + dot X W t (row t s r) (col a q)) 0) (hv.trans (Finset.sum_congr rfl fun k _ => ?_))
  rw [show 15 - 14 + k = k + 1 by omega]

/-- A device's block of the result, element by element. -/
theorem outV_apply (c : Dev nD) (i : Fin 128) (j : Fin 2048) (I : Fin 2048) (hI : I.val = c.val * 128 + i.val) :
    outV X W c (ix2 i j) = max (∑ d : Dev nD, dot X W d I j) 0 := by
  have hi := i.isLt
  have hj := j.isLt
  have e : inStripe (ix2 i j) = ix2 (⟨i.val % 32, Nat.mod_lt _ (by decide)⟩ : Fin 32) (⟨j.val % 1024, Nat.mod_lt _ (by decide)⟩ : Fin 1024) := by
    funext d
    match d with
    | ⟨0, _⟩ => rfl
    | ⟨1, _⟩ => rfl
  unfold outV
  rw [e, lastV_apply]
  have hr : row c ⟨i.val / 32 % 4, Nat.mod_lt _ (by decide)⟩ ⟨i.val % 32, Nat.mod_lt _ (by decide)⟩ = I :=
    Fin.ext (by show 128 * c.val + 32 * (i.val / 32 % 4) + i.val % 32 = I.val; omega)
  have hc : col (decide (1024 ≤ j.val)) ⟨j.val % 1024, Nat.mod_lt _ (by decide)⟩ = j := by
    refine Fin.ext ?_
    show 1024 * (half (decide (1024 ≤ j.val))).val + j.val % 1024 = j.val
    by_cases h : 1024 ≤ j.val
    · rw [decide_eq_true h]; show 1024 * 1 + _ = _; omega
    · rw [decide_eq_false h]; show 1024 * 0 + _ = _; omega
  exact congrArg (fun z : EReal => max z 0) (Finset.sum_congr rfl fun d _ => congr (congrArg (dot X W d) hr) hc)

end Cert.RingProof

end
-- ==== Proof.Result.lean ====
/-
  The result array when the kernel has ended, and its equation with the reference.
-/
module

public import proofs.«01_k».proof.Proof.Run
public import proofs.«01_k».proof.Proof.Algebra
public import proofs.«01_k».proof.Proof.Gen.ReferenceIdeal.Run
public import Idealize.ShloMosaic.Lib.Layout

@[expose] public section

noncomputable section

namespace Cert.RingProof

open Cert.KernelIdeal Cert.KernelIdeal.Gen
open Idealize.ShloMosaic
open Idealize.ShloMosaic.TcCoe

section Arrays

variable {F : FTy → Type} [FloatOps F]
variable (m : (ℓ : Loc nD τ sig) → Buf (Elt F) ℓ) (ρ : Dev nD → PrngReg)

set_option maxRecDepth 100000 in
/-- The block of `x` that the kernel works on is the device's argument, -/
theorem xAt_eq (c : Dev nD) : xAt m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

set_option maxRecDepth 100000 in
/-- and likewise of `w`. -/
theorem wAt_eq (c : Dev nD) : wAt m ρ c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _

set_option maxRecDepth 100000 in
/-- At the end the result array holds the device's block of the result. -/
theorem finalA_o (c : Dev nD) :
    finalA m ρ c (2 : Fin 3) = outV (fun d : Dev nD => m ((d : Thread nD τ).loc main_arg0)) (fun d : Dev nD => m ((d : Thread nD τ).loc main_arg1)) c := by
  have h : (win0_2.blk (0 : Fin 1)).view.read (Elt F) (finalA m ρ c (2 : Fin 3)) = outV (xAt m ρ) (wAt m ρ) c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  have hz : (fun a => (win0_2.index (0 : Fin 1)) a * main_v1.ty.shape.size a) = fun _ => 0 := funext fun a => by fin_cases a <;> decide
  have hr := Memref.read_access_unit_zero (Elt F) main_v1 hz (fun a => by fin_cases a <;> decide) (finalA m ρ c (2 : Fin 3))
  rw [show xAt m ρ = fun d : Dev nD => m ((d : Thread nD τ).loc main_arg0) from funext fun d => xAt_eq m ρ d,
    show wAt m ρ = fun d : Dev nD => m ((d : Thread nD τ).loc main_arg1) from funext fun d => wAt_eq m ρ d] at h
  exact hr.symm.trans h

end Arrays

/-- The reference's result: relu of the product of the whole matrices. -/
def refV (x w : FVec Ideal Cert.ReferenceIdeal.S2048x2048 .f32) : FVec Ideal Cert.ReferenceIdeal.S2048x2048 .f32 :=
  maximumf (F := Ideal) (Host.dotGeneral Cert.ReferenceIdeal.dot_S2048x2048_S2048x2048_S2048x2048_1_0_0_1_n_n none x w)
    (broadcastInDim Cert.ReferenceIdeal.S2048x2048 ![] Cert.ReferenceIdeal.Gen.bcast_S_S2048x2048 (constant Cert.ReferenceIdeal.S_ .f32 0x00000000#32))

/-- The same, element by element. -/
theorem refV_apply (x w : FVec Ideal Cert.ReferenceIdeal.S2048x2048 .f32) (i j : Fin 2048) :
    refV x w (ix2 i j) = max (∑ k : Fin 2048, (x (ix2 i k) : EReal) * (w (ix2 k j) : EReal)) 0 := by
  unfold refV
  pointwise

/-- A sum over the 2048 columns is the sum over the devices of the sums over their 128. -/
theorem sum_devices (f : Fin 2048 → EReal) :
    ∑ k : Fin 2048, f k = ∑ d : Fin 16, ∑ k : Fin 128, f ⟨d.val * 128 + k.val, by have := d.isLt; have := k.isLt; omega⟩ := by
  rw [← Fintype.sum_prod_type' (f := fun (d : Fin 16) (k : Fin 128) => f ⟨d.val * 128 + k.val, by have := d.isLt; have := k.isLt; omega⟩)]
  refine (Fintype.sum_equiv (finProdFinEquiv (m := 16) (n := 128)) _ _ fun p => ?_).symm
  exact congrArg f (Fin.ext (by show p.1.val * 128 + p.2.val = p.2.val + 128 * p.1.val; omega))

/-- Where an element of a block of rows lies, -/
theorem rows_idx (h : Layout.Tiles ⟨2, ![128, 2048]⟩ ⟨2, ![2048, 2048]⟩ 0 16) (c : Fin 16) (i : Fin 128) (j : Fin 2048) (I : Fin 2048)
    (hI : I.val = c.val * 128 + i.val) : h.idx c (ix2 i j) = ix2 I j := by
  funext d
  match d with
  | ⟨0, _⟩ => exact Fin.ext ((Layout.idx_rows_val h c (ix2 i j)).1.trans hI.symm)
  | ⟨1, _⟩ => exact Fin.ext (Layout.idx_rows_val h c (ix2 i j)).2
/-- and of a block of columns. -/
theorem cols_idx (h : Layout.Tiles ⟨2, ![2048, 128]⟩ ⟨2, ![2048, 2048]⟩ 1 16) (c : Fin 16) (i : Fin 2048) (j : Fin 128) (J : Fin 2048)
    (hJ : J.val = c.val * 128 + j.val) : h.idx c (ix2 i j) = ix2 i J := by
  funext d
  match d with
  | ⟨0, _⟩ => exact Fin.ext (Layout.idx_cols_val h c (ix2 i j)).1
  | ⟨1, _⟩ => exact Fin.ext ((Layout.idx_cols_val h c (ix2 i j)).2.trans hJ.symm)

/-- With each device holding its block of columns of `x` and of rows of `w`, its block of the result is its block of
    rows of the reference's. -/
theorem outV_ref (x w : FVec Ideal Cert.ReferenceIdeal.S2048x2048 .f32) (c : Dev nD) :
    outV (F := Ideal) (fun d => Layout.block ⟨2, ![2048, 128]⟩ ⟨2, ![2048, 2048]⟩ 1 16 d x) (fun d => Layout.block ⟨2, ![128, 2048]⟩ ⟨2, ![2048, 2048]⟩ 0 16 d w) c
      = Layout.block ⟨2, ![128, 2048]⟩ ⟨2, ![2048, 2048]⟩ 0 16 c (refV x w) := by
  funext i
  obtain ⟨a, b, rfl⟩ : ∃ (a : Fin 128) (b : Fin 2048), i = ix2 a b := ⟨i 0, i 1, eq_ix2 i⟩
  have hc : c.val < 16 := c.isLt
  have ha := a.isLt
  rw [outV_apply _ _ c a b ⟨c.val * 128 + a.val, by omega⟩ rfl, Layout.block_apply, rows_idx _ c a b ⟨c.val * 128 + a.val, by omega⟩ rfl,
    refV_apply, sum_devices]
  refine congrArg (fun z : EReal => max z 0) (Finset.sum_congr rfl fun d _ => Finset.sum_congr rfl fun k _ => ?_)
  have hd : d.val < 16 := d.isLt
  have hk := k.isLt
  beta_reduce
  rw [Layout.block_apply, Layout.block_apply, cols_idx _ d _ k ⟨d.val * 128 + k.val, by omega⟩ rfl, rows_idx _ d k b ⟨d.val * 128 + k.val, by omega⟩ rfl]

end Cert.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Result
public import Idealize.ShloMosaic.Adequacy
public import Idealize.ShloMosaic.Init

@[expose] public section

noncomputable section

namespace Cert.Proof

open Idealize.ShloMosaic Idealize.SL.Sem Cert.Kernel

/-- Every run of the kernel ends, the arguments keep their values and every semaphore is back at zero. -/
theorem run_kept {F : FTy → Type} [FloatOps F] (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD, r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)) ∧ r.2.sem = fun _ => 0) :=
  (θ_run Cert.KernelIdeal.defs _ _).mono
    (fun _ h => ⟨fun c => ⟨(h.1 c (0 : Fin 3)).trans (Cert.RingProof.finalA_x m ρ c), (h.1 c (1 : Fin 3)).trans (Cert.RingProof.finalA_w m ρ c)⟩, h.2⟩)
    (Cert.RingProof.run_main m ρ)

set_option maxRecDepth 100000 in
/-- The two printed programs are one text: the kernel's body, -/
theorem body_same (F : FTy → Type) [FloatOps F] : @Cert.Kernel.cc0_body F _ Cert.Kernel.Gen.facts = @Cert.KernelIdeal.cc0_body F _ Cert.KernelIdeal.Gen.facts := rfl

set_option maxRecDepth 100000 in
/-- the table with that body in it, -/
theorem table_same (F : FTy → Type) [FloatOps F] : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l a
  match l, a with
  | 0, (t, s) => dsimp only; rw [body_same]

set_option maxRecDepth 100000 in
/-- and the table with the launch around it. -/
theorem defs_same (F : FTy → Type) [FloatOps F] : @Cert.Kernel.defs F _ Cert.Kernel.Gen.facts = @Cert.KernelIdeal.defs F _ Cert.KernelIdeal.Gen.facts := by
  show Pipeline.defs _ _ = Pipeline.defs _ _
  rw [table_same]

/-- The kernel on bit patterns keeps its arguments and quiesces. -/
theorem frame_kernel : Cert.quiescent_Kernel := fun m ρ _ =>
  (congrArg (fun D => θ_run D (onTc (τ := τ) (main (F := Bits))) ⟨m, fun _ => 0, ρ⟩ (fun r =>
    (∀ c : Dev nD, r.2.mem (c.tc.loc main_arg0) = m (c.tc.loc main_arg0) ∧ r.2.mem (c.tc.loc main_arg1) = m (c.tc.loc main_arg1))
      ∧ r.2.sem = fun _ => 0)) (defs_same Bits)).mpr (run_kept (F := Bits) m ρ)

/-- The kernel on extended reals keeps its arguments and quiesces. -/
theorem frame_ideal : Cert.quiescent_KernelIdeal := fun m ρ _ => run_kept (F := Ideal) m ρ

/-- The reference on extended reals ends with its arguments unchanged; it has no semaphores. -/
theorem frame_ref : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- On extended reals, from the devices' blocks of `x` and `w`, the kernel leaves on each device its block of rows of
    the reference's `relu (x · w)`. -/
theorem algebraic : Cert.algebraic_KernelIdeal_ReferenceIdeal := fun m ρ m' ρ' _ hin =>
  ⟨Cert.RingProof.refV (m' ((0 : Dev Cert.ReferenceIdeal.nD).tc.loc Cert.ReferenceIdeal.main_arg0)) (m' ((0 : Dev Cert.ReferenceIdeal.nD).tc.loc Cert.ReferenceIdeal.main_arg1)),
    (θ_run Cert.KernelIdeal.defs _ _).mono
      (fun _ h c => ⟨by
          refine (h.1 c (2 : Fin 3)).trans ((Cert.RingProof.finalA_o m ρ c).trans ?_)
          rw [funext fun d => (hin d).1, funext fun d => (hin d).2]
          exact Cert.RingProof.outV_ref _ _ c,
        (h.1 c (0 : Fin 3)).trans (Cert.RingProof.finalA_x m ρ c), (h.1 c (1 : Fin 3)).trans (Cert.RingProof.finalA_w m ρ c)⟩)
      (Cert.RingProof.run_main (F := Ideal) m ρ),
    (θ_run Cert.ReferenceIdeal.defs _ _).mono (fun _ h => h 0) (Cert.ReferenceIdeal.Value.run (F := Ideal) m' ρ')⟩

/-- All five claims. -/
theorem claim : Cert.Claim := ⟨Cert.Kernel.Gen.facts, Cert.KernelIdeal.Gen.facts, Cert.ReferenceIdeal.Gen.facts,
  frame_kernel, frame_ideal, frame_ref, trivial, algebraic⟩

end Cert.Proof

end
